-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S4096x8192 : Shape := ⟨2, ![4096, 8192]⟩
abbrev S4x256x2048 : Shape := ⟨3, ![4, 256, 2048]⟩
abbrev S2x256x2048 : Shape := ⟨3, ![2, 256, 2048]⟩
abbrev S4 : Shape := ⟨1, ![4]⟩
abbrev S_ : Shape := ⟨0, ![]⟩
abbrev S2 : Shape := ⟨1, ![2]⟩
abbrev S256x256 : Shape := ⟨2, ![256, 256]⟩
abbrev S256x2048 : Shape := ⟨2, ![256, 2048]⟩
abbrev S1x256x2048 : Shape := ⟨3, ![1, 256, 2048]⟩
abbrev S1 : Shape := ⟨1, ![1]⟩

abbrev nBuf : Space → Nat
  | .hbm => 3
  | .vmem => 10
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S4096x8192, .f32⟩
  | .local _ .vmem, ⟨0, _⟩ => ⟨S4096x256, .bf16⟩
  | .local _ .vmem, ⟨1, _⟩ => ⟨S256x8192, .bf16⟩
  | .local _ .vmem, ⟨2, _⟩ => ⟨S4x256x2048, .bf16⟩
  | .local _ .vmem, ⟨3, _⟩ => ⟨S4x256x2048, .bf16⟩
  | .local _ .vmem, ⟨4, _⟩ => ⟨S4x256x2048, .bf16⟩
  | .local _ .vmem, ⟨5, _⟩ => ⟨S4x256x2048, .bf16⟩
  | .local _ .vmem, ⟨6, _⟩ => ⟨S2x256x2048, .f32⟩
  | .local _ .vmem, ⟨7, _⟩ => ⟨S2x256x2048, .f32⟩
  | .local _ .vmem, ⟨8, _⟩ => ⟨S2x256x2048, .f32⟩
  | .local _ .vmem, ⟨9, _⟩ => ⟨S2x256x2048, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 5 42 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v30 : BitVec 32 := Scalar.muli v2 c256_i32
  let v31 : Index := Scalar.indexCast v30
  let c0 : Index := 0#32
  ![v31.toNat, 0]
def k0_dev3 (d0 : Dev nD) : Nat :=
  let c0_i32_50 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_49 : BitVec 32 := 1#32
  let v74 : BitVec 32 := Scalar.muli v24 c1_i32_49
  let v75 : BitVec 32 := Scalar.addi c0_i32_50 v74
  v75.toNat
def k0_off2 (d0 : Dev nD) (c1_i32_55 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v84 : BitVec 32 := Scalar.subi v2 c1_i32_55
  let c16_i32_56 : BitVec 32 := 16#32
  let c0_i32_57 : BitVec 32 := 0#32
  let v85 : BitVec 1 := Scalar.cmpi .eq c16_i32_56 c0_i32_57
  let c1_i32_58 : BitVec 32 := 1#32
  let v86 : BitVec 32 := Scalar.select v85 c1_i32_58 c16_i32_56
  let v87 : BitVec 32 := Scalar.remsi v84 v86
  let c0_i32_60 : BitVec 32 := 0#32
  let v89 : BitVec 1 := Scalar.cmpi .slt v87 c0_i32_60
  let c0_i32_61 : BitVec 32 := 0#32
  let v90 : BitVec 1 := Scalar.cmpi .slt v86 c0_i32_61
  let v91 : BitVec 1 := Scalar.xori v89 v90
  let c0_i32_59 : BitVec 32 := 0#32
  let v88 : BitVec 1 := Scalar.cmpi .ne v87 c0_i32_59
  let v92 : BitVec 1 := Scalar.andi v91 v88
  let v93 : BitVec 32 := Scalar.addi v87 v86
  let v94 : BitVec 32 := Scalar.select v92 v93 v87
  let c256_i32_62 : BitVec 32 := 256#32
  let v95 : BitVec 32 := Scalar.muli v94 c256_i32_62
  let v96 : Index := Scalar.indexCast v95
  let c0_63 : Index := 0#32
  ![v96.toNat, 0]
def k0_off2_at (r : Fin 30) : BitVec 32 :=
  if r.val < 15 then
    if r.val < 7 then
      if r.val < 3 then
        if r.val < 1 then
          1#32
        else
          if r.val < 2 then
            4294967295#32
          else
            2#32
      else
        if r.val < 5 then
          if r.val < 4 then
            4294967294#32
          else
            3#32
        else
          if r.val < 6 then
            4294967293#32
          else
            4#32
    else
      if r.val < 11 then
        if r.val < 9 then
          if r.val < 8 then
            4294967292#32
          else
            5#32
        else
          if r.val < 10 then
            4294967291#32
          else
            6#32
      else
        if r.val < 13 then
          if r.val < 12 then
            4294967290#32
          else
            7#32
        else
          if r.val < 14 then
            4294967289#32
          else
            8#32
  else
    if r.val < 22 then
      if r.val < 18 then
        if r.val < 16 then
          4294967288#32
        else
          if r.val < 17 then
            9#32
          else
            4294967287#32
      else
        if r.val < 20 then
          if r.val < 19 then
            10#32
          else
            4294967286#32
        else
          if r.val < 21 then
            11#32
          else
            4294967285#32
    else
      if r.val < 26 then
        if r.val < 24 then
          if r.val < 23 then
            12#32
          else
            4294967284#32
        else
          if r.val < 25 then
            13#32
          else
            4294967283#32
      else
        if r.val < 28 then
          if r.val < 27 then
            14#32
          else
            4294967282#32
        else
          if r.val < 29 then
            15#32
          else
            4294967281#32
def k0_dev4 (d0 : Dev nD) : Nat :=
  let c0_i32_72 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_71 : BitVec 32 := 1#32
  let v103 : BitVec 32 := Scalar.muli v13 c1_i32_71
  let v104 : BitVec 32 := Scalar.addi c0_i32_72 v103
  v104.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_92 : BitVec 32 := 1#32
  let v132 : BitVec 32 := Scalar.muli v24 c1_i32_92
  let v133 : BitVec 32 := Scalar.addi c0_i32_93 v132
  v133.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_114 : BitVec 32 := 1#32
  let v161 : BitVec 32 := Scalar.muli v13 c1_i32_114
  let v162 : BitVec 32 := Scalar.addi c0_i32_115 v161
  v162.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_151 : BitVec 32 := 1#32
  let v204 : BitVec 32 := Scalar.muli v24 c1_i32_151
  let v205 : BitVec 32 := Scalar.addi c0_i32_152 v204
  v205.toNat
def k0_dev8 (d0 : Dev nD) : Nat :=
  let c0_i32_180 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_179 : BitVec 32 := 1#32
  let v239 : BitVec 32 := Scalar.muli v13 c1_i32_179
  let v240 : BitVec 32 := Scalar.addi c0_i32_180 v239
  v240.toNat
def k0_dev9 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_201 : BitVec 32 := 1#32
  let v255 : BitVec 32 := Scalar.muli v13 c1_i32_201
  let v256 : BitVec 32 := Scalar.addi c0_i32_202 v255
  v256.toNat
def k0_dev10 (d0 : Dev nD) : Nat :=
  let c0_i32_229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_228 : BitVec 32 := 1#32
  let v290 : BitVec 32 := Scalar.muli v24 c1_i32_228
  let v291 : BitVec 32 := Scalar.addi c0_i32_229 v290
  v291.toNat
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_250 : BitVec 32 := 1#32
  let v306 : BitVec 32 := Scalar.muli v24 c1_i32_250
  let v307 : BitVec 32 := Scalar.addi c0_i32_251 v306
  v307.toNat
def k0_dev12 (d0 : Dev nD) : Nat :=
  let c0_i32_279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_278 : BitVec 32 := 1#32
  let v341 : BitVec 32 := Scalar.muli v13 c1_i32_278
  let v342 : BitVec 32 := Scalar.addi c0_i32_279 v341
  v342.toNat
def k0_dev13 (d0 : Dev nD) : Nat :=
  let c0_i32_301 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_300 : BitVec 32 := 1#32
  let v357 : BitVec 32 := Scalar.muli v13 c1_i32_300
  let v358 : BitVec 32 := Scalar.addi c0_i32_301 v357
  v358.toNat
def k0_dev14 (d0 : Dev nD) : Nat :=
  let c0_i32_329 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_328 : BitVec 32 := 1#32
  let v392 : BitVec 32 := Scalar.muli v24 c1_i32_328
  let v393 : BitVec 32 := Scalar.addi c0_i32_329 v392
  v393.toNat
def k0_dev15 (d0 : Dev nD) : Nat :=
  let c0_i32_349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_348 : BitVec 32 := 1#32
  let v408 : BitVec 32 := Scalar.muli v24 c1_i32_348
  let v409 : BitVec 32 := Scalar.addi c0_i32_349 v408
  v409.toNat
def k0_dev16 (d0 : Dev nD) : Nat :=
  let c0_i32_377 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_376 : BitVec 32 := 1#32
  let v443 : BitVec 32 := Scalar.muli v13 c1_i32_376
  let v444 : BitVec 32 := Scalar.addi c0_i32_377 v443
  v444.toNat
def k0_dev17 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_398 : BitVec 32 := 1#32
  let v459 : BitVec 32 := Scalar.muli v13 c1_i32_398
  let v460 : BitVec 32 := Scalar.addi c0_i32_399 v459
  v460.toNat
def k0_dev18 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_425 : BitVec 32 := 1#32
  let v494 : BitVec 32 := Scalar.muli v24 c1_i32_425
  let v495 : BitVec 32 := Scalar.addi c0_i32_426 v494
  v495.toNat
def k0_dev19 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_447 : BitVec 32 := 1#32
  let v510 : BitVec 32 := Scalar.muli v24 c1_i32_447
  let v511 : BitVec 32 := Scalar.addi c0_i32_448 v510
  v511.toNat
def k0_dev20 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_475 : BitVec 32 := 1#32
  let v545 : BitVec 32 := Scalar.muli v13 c1_i32_475
  let v546 : BitVec 32 := Scalar.addi c0_i32_476 v545
  v546.toNat
def k0_dev21 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_497 : BitVec 32 := 1#32
  let v561 : BitVec 32 := Scalar.muli v13 c1_i32_497
  let v562 : BitVec 32 := Scalar.addi c0_i32_498 v561
  v562.toNat
def k0_dev22 (d0 : Dev nD) : Nat :=
  let c0_i32_526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_525 : BitVec 32 := 1#32
  let v596 : BitVec 32 := Scalar.muli v24 c1_i32_525
  let v597 : BitVec 32 := Scalar.addi c0_i32_526 v596
  v597.toNat
def k0_dev23 (d0 : Dev nD) : Nat :=
  let c0_i32_549 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_548 : BitVec 32 := 1#32
  let v612 : BitVec 32 := Scalar.muli v24 c1_i32_548
  let v613 : BitVec 32 := Scalar.addi c0_i32_549 v612
  v613.toNat
def k0_dev24 (d0 : Dev nD) : Nat :=
  let c0_i32_576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_575 : BitVec 32 := 1#32
  let v647 : BitVec 32 := Scalar.muli v13 c1_i32_575
  let v648 : BitVec 32 := Scalar.addi c0_i32_576 v647
  v648.toNat
def k0_dev25 (d0 : Dev nD) : Nat :=
  let c0_i32_600 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_599 : BitVec 32 := 1#32
  let v663 : BitVec 32 := Scalar.muli v13 c1_i32_599
  let v664 : BitVec 32 := Scalar.addi c0_i32_600 v663
  v664.toNat
def k0_dev26 (d0 : Dev nD) : Nat :=
  let c0_i32_627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_626 : BitVec 32 := 1#32
  let v698 : BitVec 32 := Scalar.muli v24 c1_i32_626
  let v699 : BitVec 32 := Scalar.addi c0_i32_627 v698
  v699.toNat
def k0_dev27 (d0 : Dev nD) : Nat :=
  let c0_i32_651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_650 : BitVec 32 := 1#32
  let v714 : BitVec 32 := Scalar.muli v24 c1_i32_650
  let v715 : BitVec 32 := Scalar.addi c0_i32_651 v714
  v715.toNat
def k0_dev28 (d0 : Dev nD) : Nat :=
  let c0_i32_679 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_678 : BitVec 32 := 1#32
  let v749 : BitVec 32 := Scalar.muli v13 c1_i32_678
  let v750 : BitVec 32 := Scalar.addi c0_i32_679 v749
  v750.toNat
def k0_dev29 (d0 : Dev nD) : Nat :=
  let c0_i32_703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_702 : BitVec 32 := 1#32
  let v765 : BitVec 32 := Scalar.muli v13 c1_i32_702
  let v766 : BitVec 32 := Scalar.addi c0_i32_703 v765
  v766.toNat
def k0_dev30 (d0 : Dev nD) : Nat :=
  let c0_i32_731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_730 : BitVec 32 := 1#32
  let v800 : BitVec 32 := Scalar.muli v24 c1_i32_730
  let v801 : BitVec 32 := Scalar.addi c0_i32_731 v800
  v801.toNat
def k0_dev31 (d0 : Dev nD) : Nat :=
  let c0_i32_755 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_754 : BitVec 32 := 1#32
  let v816 : BitVec 32 := Scalar.muli v24 c1_i32_754
  let v817 : BitVec 32 := Scalar.addi c0_i32_755 v816
  v817.toNat
def k0_dev32 (d0 : Dev nD) : Nat :=
  let c0_i32_782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_781 : BitVec 32 := 1#32
  let v851 : BitVec 32 := Scalar.muli v13 c1_i32_781
  let v852 : BitVec 32 := Scalar.addi c0_i32_782 v851
  v852.toNat
def k0_dev33 (d0 : Dev nD) : Nat :=
  let c0_i32_806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_805 : BitVec 32 := 1#32
  let v867 : BitVec 32 := Scalar.muli v13 c1_i32_805
  let v868 : BitVec 32 := Scalar.addi c0_i32_806 v867
  v868.toNat
def k0_dev34 (d0 : Dev nD) : Nat :=
  let c0_i32_833 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_832 : BitVec 32 := 1#32
  let v902 : BitVec 32 := Scalar.muli v24 c1_i32_832
  let v903 : BitVec 32 := Scalar.addi c0_i32_833 v902
  v903.toNat
def k0_dev35 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_856 : BitVec 32 := 1#32
  let v918 : BitVec 32 := Scalar.muli v24 c1_i32_856
  let v919 : BitVec 32 := Scalar.addi c0_i32_857 v918
  v919.toNat
def k0_dev36 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_884 : BitVec 32 := 1#32
  let v953 : BitVec 32 := Scalar.muli v13 c1_i32_884
  let v954 : BitVec 32 := Scalar.addi c0_i32_885 v953
  v954.toNat
def k0_dev37 (d0 : Dev nD) : Nat :=
  let c0_i32_909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_908 : BitVec 32 := 1#32
  let v969 : BitVec 32 := Scalar.muli v13 c1_i32_908
  let v970 : BitVec 32 := Scalar.addi c0_i32_909 v969
  v970.toNat
def k0_dev38 (d0 : Dev nD) : Nat :=
  let c0_i32_937 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_936 : BitVec 32 := 1#32
  let v1004 : BitVec 32 := Scalar.muli v24 c1_i32_936
  let v1005 : BitVec 32 := Scalar.addi c0_i32_937 v1004
  v1005.toNat
def k0_dev39 (d0 : Dev nD) : Nat :=
  let c0_i32_961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_960 : BitVec 32 := 1#32
  let v1020 : BitVec 32 := Scalar.muli v24 c1_i32_960
  let v1021 : BitVec 32 := Scalar.addi c0_i32_961 v1020
  v1021.toNat
def k0_dev40 (d0 : Dev nD) : Nat :=
  let c0_i32_988 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_987 : BitVec 32 := 1#32
  let v1055 : BitVec 32 := Scalar.muli v13 c1_i32_987
  let v1056 : BitVec 32 := Scalar.addi c0_i32_988 v1055
  v1056.toNat
def k0_dev41 (d0 : Dev nD) : Nat :=
  let c0_i32_1012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1011 : BitVec 32 := 1#32
  let v1071 : BitVec 32 := Scalar.muli v13 c1_i32_1011
  let v1072 : BitVec 32 := Scalar.addi c0_i32_1012 v1071
  v1072.toNat
def k0_dev42 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1038 : BitVec 32 := 1#32
  let v1106 : BitVec 32 := Scalar.muli v24 c1_i32_1038
  let v1107 : BitVec 32 := Scalar.addi c0_i32_1039 v1106
  v1107.toNat
def k0_dev43 (d0 : Dev nD) : Nat :=
  let c0_i32_1063 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1062 : BitVec 32 := 1#32
  let v1122 : BitVec 32 := Scalar.muli v24 c1_i32_1062
  let v1123 : BitVec 32 := Scalar.addi c0_i32_1063 v1122
  v1123.toNat
def k0_dev44 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1090 : BitVec 32 := 1#32
  let v1157 : BitVec 32 := Scalar.muli v13 c1_i32_1090
  let v1158 : BitVec 32 := Scalar.addi c0_i32_1091 v1157
  v1158.toNat
def k0_dev45 (d0 : Dev nD) : Nat :=
  let c0_i32_1115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1114 : BitVec 32 := 1#32
  let v1173 : BitVec 32 := Scalar.muli v13 c1_i32_1114
  let v1174 : BitVec 32 := Scalar.addi c0_i32_1115 v1173
  v1174.toNat
def k0_dev46 (d0 : Dev nD) : Nat :=
  let c0_i32_1143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1142 : BitVec 32 := 1#32
  let v1208 : BitVec 32 := Scalar.muli v24 c1_i32_1142
  let v1209 : BitVec 32 := Scalar.addi c0_i32_1143 v1208
  v1209.toNat
def k0_dev47 (d0 : Dev nD) : Nat :=
  let c0_i32_1167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1166 : BitVec 32 := 1#32
  let v1224 : BitVec 32 := Scalar.muli v24 c1_i32_1166
  let v1225 : BitVec 32 := Scalar.addi c0_i32_1167 v1224
  v1225.toNat
def k0_dev48 (d0 : Dev nD) : Nat :=
  let c0_i32_1194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1193 : BitVec 32 := 1#32
  let v1259 : BitVec 32 := Scalar.muli v13 c1_i32_1193
  let v1260 : BitVec 32 := Scalar.addi c0_i32_1194 v1259
  v1260.toNat
def k0_dev49 (d0 : Dev nD) : Nat :=
  let c0_i32_1218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1217 : BitVec 32 := 1#32
  let v1275 : BitVec 32 := Scalar.muli v13 c1_i32_1217
  let v1276 : BitVec 32 := Scalar.addi c0_i32_1218 v1275
  v1276.toNat
def k0_dev50 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1244 : BitVec 32 := 1#32
  let v1310 : BitVec 32 := Scalar.muli v24 c1_i32_1244
  let v1311 : BitVec 32 := Scalar.addi c0_i32_1245 v1310
  v1311.toNat
def k0_dev51 (d0 : Dev nD) : Nat :=
  let c0_i32_1269 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1268 : BitVec 32 := 1#32
  let v1326 : BitVec 32 := Scalar.muli v24 c1_i32_1268
  let v1327 : BitVec 32 := Scalar.addi c0_i32_1269 v1326
  v1327.toNat
def k0_dev52 (d0 : Dev nD) : Nat :=
  let c0_i32_1297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1296 : BitVec 32 := 1#32
  let v1361 : BitVec 32 := Scalar.muli v13 c1_i32_1296
  let v1362 : BitVec 32 := Scalar.addi c0_i32_1297 v1361
  v1362.toNat
def k0_dev53 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1320 : BitVec 32 := 1#32
  let v1377 : BitVec 32 := Scalar.muli v13 c1_i32_1320
  let v1378 : BitVec 32 := Scalar.addi c0_i32_1321 v1377
  v1378.toNat
def k0_dev54 (d0 : Dev nD) : Nat :=
  let c0_i32_1349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1348 : BitVec 32 := 1#32
  let v1412 : BitVec 32 := Scalar.muli v24 c1_i32_1348
  let v1413 : BitVec 32 := Scalar.addi c0_i32_1349 v1412
  v1413.toNat
def k0_dev55 (d0 : Dev nD) : Nat :=
  let c0_i32_1373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1372 : BitVec 32 := 1#32
  let v1428 : BitVec 32 := Scalar.muli v24 c1_i32_1372
  let v1429 : BitVec 32 := Scalar.addi c0_i32_1373 v1428
  v1429.toNat
def k0_dev56 (d0 : Dev nD) : Nat :=
  let c0_i32_1400 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1399 : BitVec 32 := 1#32
  let v1463 : BitVec 32 := Scalar.muli v13 c1_i32_1399
  let v1464 : BitVec 32 := Scalar.addi c0_i32_1400 v1463
  v1464.toNat
def k0_dev57 (d0 : Dev nD) : Nat :=
  let c0_i32_1424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1423 : BitVec 32 := 1#32
  let v1479 : BitVec 32 := Scalar.muli v13 c1_i32_1423
  let v1480 : BitVec 32 := Scalar.addi c0_i32_1424 v1479
  v1480.toNat
def k0_dev58 (d0 : Dev nD) : Nat :=
  let c0_i32_1451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1450 : BitVec 32 := 1#32
  let v1514 : BitVec 32 := Scalar.muli v24 c1_i32_1450
  let v1515 : BitVec 32 := Scalar.addi c0_i32_1451 v1514
  v1515.toNat
def k0_dev59 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1474 : BitVec 32 := 1#32
  let v1530 : BitVec 32 := Scalar.muli v24 c1_i32_1474
  let v1531 : BitVec 32 := Scalar.addi c0_i32_1475 v1530
  v1531.toNat
def k0_dev60 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1502 : BitVec 32 := 1#32
  let v1565 : BitVec 32 := Scalar.muli v13 c1_i32_1502
  let v1566 : BitVec 32 := Scalar.addi c0_i32_1503 v1565
  v1566.toNat
def k0_dev61 (d0 : Dev nD) : Nat :=
  let c0_i32_1527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1526 : BitVec 32 := 1#32
  let v1581 : BitVec 32 := Scalar.muli v13 c1_i32_1526
  let v1582 : BitVec 32 := Scalar.addi c0_i32_1527 v1581
  v1582.toNat
def k0_dev62 (d0 : Dev nD) : Nat :=
  let c0_i32_1555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1554 : BitVec 32 := 1#32
  let v1616 : BitVec 32 := Scalar.muli v24 c1_i32_1554
  let v1617 : BitVec 32 := Scalar.addi c0_i32_1555 v1616
  v1617.toNat
def k0_dev63 (d0 : Dev nD) : Nat :=
  let c0_i32_1579 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1578 : BitVec 32 := 1#32
  let v1632 : BitVec 32 := Scalar.muli v24 c1_i32_1578
  let v1633 : BitVec 32 := Scalar.addi c0_i32_1579 v1632
  v1633.toNat
def k0_dev64 (d0 : Dev nD) : Nat :=
  let c0_i32_1606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1605 : BitVec 32 := 1#32
  let v1667 : BitVec 32 := Scalar.muli v13 c1_i32_1605
  let v1668 : BitVec 32 := Scalar.addi c0_i32_1606 v1667
  v1668.toNat
def k0_dev65 (d0 : Dev nD) : Nat :=
  let c0_i32_1630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1629 : BitVec 32 := 1#32
  let v1683 : BitVec 32 := Scalar.muli v13 c1_i32_1629
  let v1684 : BitVec 32 := Scalar.addi c0_i32_1630 v1683
  v1684.toNat
def k0_dev66 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1656 : BitVec 32 := 1#32
  let v1718 : BitVec 32 := Scalar.muli v24 c1_i32_1656
  let v1719 : BitVec 32 := Scalar.addi c0_i32_1657 v1718
  v1719.toNat
def k0_dev67 (d0 : Dev nD) : Nat :=
  let c0_i32_1681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1680 : BitVec 32 := 1#32
  let v1734 : BitVec 32 := Scalar.muli v24 c1_i32_1680
  let v1735 : BitVec 32 := Scalar.addi c0_i32_1681 v1734
  v1735.toNat
def k0_dev68 (d0 : Dev nD) : Nat :=
  let c0_i32_1709 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1708 : BitVec 32 := 1#32
  let v1769 : BitVec 32 := Scalar.muli v13 c1_i32_1708
  let v1770 : BitVec 32 := Scalar.addi c0_i32_1709 v1769
  v1770.toNat
def k0_dev69 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1732 : BitVec 32 := 1#32
  let v1785 : BitVec 32 := Scalar.muli v13 c1_i32_1732
  let v1786 : BitVec 32 := Scalar.addi c0_i32_1733 v1785
  v1786.toNat
def k0_dev70 (d0 : Dev nD) : Nat :=
  let c0_i32_1761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1760 : BitVec 32 := 1#32
  let v1820 : BitVec 32 := Scalar.muli v24 c1_i32_1760
  let v1821 : BitVec 32 := Scalar.addi c0_i32_1761 v1820
  v1821.toNat
def k0_dev71 (d0 : Dev nD) : Nat :=
  let c0_i32_1785 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1784 : BitVec 32 := 1#32
  let v1836 : BitVec 32 := Scalar.muli v24 c1_i32_1784
  let v1837 : BitVec 32 := Scalar.addi c0_i32_1785 v1836
  v1837.toNat
def k0_dev72 (d0 : Dev nD) : Nat :=
  let c0_i32_1812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1811 : BitVec 32 := 1#32
  let v1871 : BitVec 32 := Scalar.muli v13 c1_i32_1811
  let v1872 : BitVec 32 := Scalar.addi c0_i32_1812 v1871
  v1872.toNat
def k0_dev73 (d0 : Dev nD) : Nat :=
  let c0_i32_1836 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1835 : BitVec 32 := 1#32
  let v1887 : BitVec 32 := Scalar.muli v13 c1_i32_1835
  let v1888 : BitVec 32 := Scalar.addi c0_i32_1836 v1887
  v1888.toNat
def k0_dev74 (d0 : Dev nD) : Nat :=
  let c0_i32_1863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1862 : BitVec 32 := 1#32
  let v1922 : BitVec 32 := Scalar.muli v24 c1_i32_1862
  let v1923 : BitVec 32 := Scalar.addi c0_i32_1863 v1922
  v1923.toNat
def k0_dev75 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1886 : BitVec 32 := 1#32
  let v1938 : BitVec 32 := Scalar.muli v24 c1_i32_1886
  let v1939 : BitVec 32 := Scalar.addi c0_i32_1887 v1938
  v1939.toNat
def k0_dev76 (d0 : Dev nD) : Nat :=
  let c0_i32_1915 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1914 : BitVec 32 := 1#32
  let v1973 : BitVec 32 := Scalar.muli v13 c1_i32_1914
  let v1974 : BitVec 32 := Scalar.addi c0_i32_1915 v1973
  v1974.toNat
def k0_dev77 (d0 : Dev nD) : Nat :=
  let c0_i32_1939 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1938 : BitVec 32 := 1#32
  let v1989 : BitVec 32 := Scalar.muli v13 c1_i32_1938
  let v1990 : BitVec 32 := Scalar.addi c0_i32_1939 v1989
  v1990.toNat
def k0_dev78 (d0 : Dev nD) : Nat :=
  let c0_i32_1967 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1966 : BitVec 32 := 1#32
  let v2024 : BitVec 32 := Scalar.muli v24 c1_i32_1966
  let v2025 : BitVec 32 := Scalar.addi c0_i32_1967 v2024
  v2025.toNat
def k0_dev79 (d0 : Dev nD) : Nat :=
  let c0_i32_1991 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1990 : BitVec 32 := 1#32
  let v2040 : BitVec 32 := Scalar.muli v24 c1_i32_1990
  let v2041 : BitVec 32 := Scalar.addi c0_i32_1991 v2040
  v2041.toNat
def k0_dev80 (d0 : Dev nD) : Nat :=
  let c0_i32_2018 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2017 : BitVec 32 := 1#32
  let v2075 : BitVec 32 := Scalar.muli v13 c1_i32_2017
  let v2076 : BitVec 32 := Scalar.addi c0_i32_2018 v2075
  v2076.toNat
def k0_dev81 (d0 : Dev nD) : Nat :=
  let c0_i32_2042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2041 : BitVec 32 := 1#32
  let v2091 : BitVec 32 := Scalar.muli v13 c1_i32_2041
  let v2092 : BitVec 32 := Scalar.addi c0_i32_2042 v2091
  v2092.toNat
def k0_dev82 (d0 : Dev nD) : Nat :=
  let c0_i32_2069 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2068 : BitVec 32 := 1#32
  let v2126 : BitVec 32 := Scalar.muli v24 c1_i32_2068
  let v2127 : BitVec 32 := Scalar.addi c0_i32_2069 v2126
  v2127.toNat
def k0_dev83 (d0 : Dev nD) : Nat :=
  let c0_i32_2093 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2092 : BitVec 32 := 1#32
  let v2142 : BitVec 32 := Scalar.muli v24 c1_i32_2092
  let v2143 : BitVec 32 := Scalar.addi c0_i32_2093 v2142
  v2143.toNat
def k0_dev84 (d0 : Dev nD) : Nat :=
  let c0_i32_2121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2120 : BitVec 32 := 1#32
  let v2177 : BitVec 32 := Scalar.muli v13 c1_i32_2120
  let v2178 : BitVec 32 := Scalar.addi c0_i32_2121 v2177
  v2178.toNat
def k0_dev85 (d0 : Dev nD) : Nat :=
  let c0_i32_2145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2144 : BitVec 32 := 1#32
  let v2193 : BitVec 32 := Scalar.muli v13 c1_i32_2144
  let v2194 : BitVec 32 := Scalar.addi c0_i32_2145 v2193
  v2194.toNat
def k0_dev86 (d0 : Dev nD) : Nat :=
  let c0_i32_2173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2172 : BitVec 32 := 1#32
  let v2228 : BitVec 32 := Scalar.muli v24 c1_i32_2172
  let v2229 : BitVec 32 := Scalar.addi c0_i32_2173 v2228
  v2229.toNat
def k0_dev87 (d0 : Dev nD) : Nat :=
  let c0_i32_2197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2196 : BitVec 32 := 1#32
  let v2244 : BitVec 32 := Scalar.muli v24 c1_i32_2196
  let v2245 : BitVec 32 := Scalar.addi c0_i32_2197 v2244
  v2245.toNat
def k0_dev88 (d0 : Dev nD) : Nat :=
  let c0_i32_2224 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2223 : BitVec 32 := 1#32
  let v2279 : BitVec 32 := Scalar.muli v13 c1_i32_2223
  let v2280 : BitVec 32 := Scalar.addi c0_i32_2224 v2279
  v2280.toNat
def k0_dev89 (d0 : Dev nD) : Nat :=
  let c0_i32_2248 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2247 : BitVec 32 := 1#32
  let v2295 : BitVec 32 := Scalar.muli v13 c1_i32_2247
  let v2296 : BitVec 32 := Scalar.addi c0_i32_2248 v2295
  v2296.toNat
def k0_dev90 (d0 : Dev nD) : Nat :=
  let c0_i32_2275 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2274 : BitVec 32 := 1#32
  let v2330 : BitVec 32 := Scalar.muli v24 c1_i32_2274
  let v2331 : BitVec 32 := Scalar.addi c0_i32_2275 v2330
  v2331.toNat
def k0_dev91 (d0 : Dev nD) : Nat :=
  let c0_i32_2299 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2298 : BitVec 32 := 1#32
  let v2346 : BitVec 32 := Scalar.muli v24 c1_i32_2298
  let v2347 : BitVec 32 := Scalar.addi c0_i32_2299 v2346
  v2347.toNat
def k0_dev92 (d0 : Dev nD) : Nat :=
  let c0_i32_2327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2326 : BitVec 32 := 1#32
  let v2381 : BitVec 32 := Scalar.muli v13 c1_i32_2326
  let v2382 : BitVec 32 := Scalar.addi c0_i32_2327 v2381
  v2382.toNat
def k0_dev93 (d0 : Dev nD) : Nat :=
  let c0_i32_2351 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2350 : BitVec 32 := 1#32
  let v2397 : BitVec 32 := Scalar.muli v13 c1_i32_2350
  let v2398 : BitVec 32 := Scalar.addi c0_i32_2351 v2397
  v2398.toNat
def k0_dev94 (d0 : Dev nD) : Nat :=
  let c0_i32_2379 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2378 : BitVec 32 := 1#32
  let v2432 : BitVec 32 := Scalar.muli v24 c1_i32_2378
  let v2433 : BitVec 32 := Scalar.addi c0_i32_2379 v2432
  v2433.toNat
def k0_dev95 (d0 : Dev nD) : Nat :=
  let c0_i32_2403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2402 : BitVec 32 := 1#32
  let v2448 : BitVec 32 := Scalar.muli v24 c1_i32_2402
  let v2449 : BitVec 32 := Scalar.addi c0_i32_2403 v2448
  v2449.toNat
def k0_dev96 (d0 : Dev nD) : Nat :=
  let c0_i32_2430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2429 : BitVec 32 := 1#32
  let v2483 : BitVec 32 := Scalar.muli v13 c1_i32_2429
  let v2484 : BitVec 32 := Scalar.addi c0_i32_2430 v2483
  v2484.toNat
def k0_dev97 (d0 : Dev nD) : Nat :=
  let c0_i32_2454 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2453 : BitVec 32 := 1#32
  let v2499 : BitVec 32 := Scalar.muli v13 c1_i32_2453
  let v2500 : BitVec 32 := Scalar.addi c0_i32_2454 v2499
  v2500.toNat
def k0_dev98 (d0 : Dev nD) : Nat :=
  let c0_i32_2481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2480 : BitVec 32 := 1#32
  let v2534 : BitVec 32 := Scalar.muli v24 c1_i32_2480
  let v2535 : BitVec 32 := Scalar.addi c0_i32_2481 v2534
  v2535.toNat
def k0_dev99 (d0 : Dev nD) : Nat :=
  let c0_i32_2505 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2504 : BitVec 32 := 1#32
  let v2550 : BitVec 32 := Scalar.muli v24 c1_i32_2504
  let v2551 : BitVec 32 := Scalar.addi c0_i32_2505 v2550
  v2551.toNat
def k0_dev100 (d0 : Dev nD) : Nat :=
  let c0_i32_2533 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2532 : BitVec 32 := 1#32
  let v2585 : BitVec 32 := Scalar.muli v13 c1_i32_2532
  let v2586 : BitVec 32 := Scalar.addi c0_i32_2533 v2585
  v2586.toNat
def k0_dev101 (d0 : Dev nD) : Nat :=
  let c0_i32_2557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2556 : BitVec 32 := 1#32
  let v2601 : BitVec 32 := Scalar.muli v13 c1_i32_2556
  let v2602 : BitVec 32 := Scalar.addi c0_i32_2557 v2601
  v2602.toNat
def k0_dev102 (d0 : Dev nD) : Nat :=
  let c0_i32_2585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2584 : BitVec 32 := 1#32
  let v2636 : BitVec 32 := Scalar.muli v24 c1_i32_2584
  let v2637 : BitVec 32 := Scalar.addi c0_i32_2585 v2636
  v2637.toNat
def k0_dev103 (d0 : Dev nD) : Nat :=
  let c0_i32_2609 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2608 : BitVec 32 := 1#32
  let v2652 : BitVec 32 := Scalar.muli v24 c1_i32_2608
  let v2653 : BitVec 32 := Scalar.addi c0_i32_2609 v2652
  v2653.toNat
def k0_dev104 (d0 : Dev nD) : Nat :=
  let c0_i32_2636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2635 : BitVec 32 := 1#32
  let v2687 : BitVec 32 := Scalar.muli v13 c1_i32_2635
  let v2688 : BitVec 32 := Scalar.addi c0_i32_2636 v2687
  v2688.toNat
def k0_dev105 (d0 : Dev nD) : Nat :=
  let c0_i32_2660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2659 : BitVec 32 := 1#32
  let v2703 : BitVec 32 := Scalar.muli v13 c1_i32_2659
  let v2704 : BitVec 32 := Scalar.addi c0_i32_2660 v2703
  v2704.toNat
def k0_dev106 (d0 : Dev nD) : Nat :=
  let c0_i32_2687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2686 : BitVec 32 := 1#32
  let v2738 : BitVec 32 := Scalar.muli v24 c1_i32_2686
  let v2739 : BitVec 32 := Scalar.addi c0_i32_2687 v2738
  v2739.toNat
def k0_dev107 (d0 : Dev nD) : Nat :=
  let c0_i32_2711 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2710 : BitVec 32 := 1#32
  let v2754 : BitVec 32 := Scalar.muli v24 c1_i32_2710
  let v2755 : BitVec 32 := Scalar.addi c0_i32_2711 v2754
  v2755.toNat
def k0_dev108 (d0 : Dev nD) : Nat :=
  let c0_i32_2739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2738 : BitVec 32 := 1#32
  let v2789 : BitVec 32 := Scalar.muli v13 c1_i32_2738
  let v2790 : BitVec 32 := Scalar.addi c0_i32_2739 v2789
  v2790.toNat
def k0_dev109 (d0 : Dev nD) : Nat :=
  let c0_i32_2763 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2762 : BitVec 32 := 1#32
  let v2805 : BitVec 32 := Scalar.muli v13 c1_i32_2762
  let v2806 : BitVec 32 := Scalar.addi c0_i32_2763 v2805
  v2806.toNat
def k0_dev110 (d0 : Dev nD) : Nat :=
  let c0_i32_2791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2790 : BitVec 32 := 1#32
  let v2840 : BitVec 32 := Scalar.muli v24 c1_i32_2790
  let v2841 : BitVec 32 := Scalar.addi c0_i32_2791 v2840
  v2841.toNat
def k0_dev111 (d0 : Dev nD) : Nat :=
  let c0_i32_2815 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2814 : BitVec 32 := 1#32
  let v2856 : BitVec 32 := Scalar.muli v24 c1_i32_2814
  let v2857 : BitVec 32 := Scalar.addi c0_i32_2815 v2856
  v2857.toNat
def k0_dev112 (d0 : Dev nD) : Nat :=
  let c0_i32_2842 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2841 : BitVec 32 := 1#32
  let v2891 : BitVec 32 := Scalar.muli v13 c1_i32_2841
  let v2892 : BitVec 32 := Scalar.addi c0_i32_2842 v2891
  v2892.toNat
def k0_dev113 (d0 : Dev nD) : Nat :=
  let c0_i32_2866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2865 : BitVec 32 := 1#32
  let v2907 : BitVec 32 := Scalar.muli v13 c1_i32_2865
  let v2908 : BitVec 32 := Scalar.addi c0_i32_2866 v2907
  v2908.toNat
def k0_dev114 (d0 : Dev nD) : Nat :=
  let c0_i32_2893 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2892 : BitVec 32 := 1#32
  let v2942 : BitVec 32 := Scalar.muli v24 c1_i32_2892
  let v2943 : BitVec 32 := Scalar.addi c0_i32_2893 v2942
  v2943.toNat
def k0_dev115 (d0 : Dev nD) : Nat :=
  let c0_i32_2917 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2916 : BitVec 32 := 1#32
  let v2958 : BitVec 32 := Scalar.muli v24 c1_i32_2916
  let v2959 : BitVec 32 := Scalar.addi c0_i32_2917 v2958
  v2959.toNat
def k0_dev116 (d0 : Dev nD) : Nat :=
  let c0_i32_2945 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2944 : BitVec 32 := 1#32
  let v2993 : BitVec 32 := Scalar.muli v13 c1_i32_2944
  let v2994 : BitVec 32 := Scalar.addi c0_i32_2945 v2993
  v2994.toNat
def k0_dev117 (d0 : Dev nD) : Nat :=
  let c0_i32_2969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2968 : BitVec 32 := 1#32
  let v3009 : BitVec 32 := Scalar.muli v13 c1_i32_2968
  let v3010 : BitVec 32 := Scalar.addi c0_i32_2969 v3009
  v3010.toNat
def k0_dev118 (d0 : Dev nD) : Nat :=
  let c0_i32_2997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2996 : BitVec 32 := 1#32
  let v3044 : BitVec 32 := Scalar.muli v24 c1_i32_2996
  let v3045 : BitVec 32 := Scalar.addi c0_i32_2997 v3044
  v3045.toNat
def k0_dev119 (d0 : Dev nD) : Nat :=
  let c0_i32_3021 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3020 : BitVec 32 := 1#32
  let v3060 : BitVec 32 := Scalar.muli v24 c1_i32_3020
  let v3061 : BitVec 32 := Scalar.addi c0_i32_3021 v3060
  v3061.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3026 : BitVec 32 := 1#32
  let v3070 : BitVec 32 := Scalar.addi v2 c1_i32_3026
  let c16_i32_3027 : BitVec 32 := 16#32
  let c0_i32_3028 : BitVec 32 := 0#32
  let v3071 : BitVec 1 := Scalar.cmpi .eq c16_i32_3027 c0_i32_3028
  let c1_i32_3029 : BitVec 32 := 1#32
  let v3072 : BitVec 32 := Scalar.select v3071 c1_i32_3029 c16_i32_3027
  let v3073 : BitVec 32 := Scalar.remsi v3070 v3072
  let c0_i32_3031 : BitVec 32 := 0#32
  let v3075 : BitVec 1 := Scalar.cmpi .slt v3073 c0_i32_3031
  let c0_i32_3032 : BitVec 32 := 0#32
  let v3076 : BitVec 1 := Scalar.cmpi .slt v3072 c0_i32_3032
  let v3077 : BitVec 1 := Scalar.xori v3075 v3076
  let c0_i32_3030 : BitVec 32 := 0#32
  let v3074 : BitVec 1 := Scalar.cmpi .ne v3073 c0_i32_3030
  let v3078 : BitVec 1 := Scalar.andi v3077 v3074
  let v3079 : BitVec 32 := Scalar.addi v3073 v3072
  let v3080 : BitVec 32 := Scalar.select v3078 v3079 v3073
  let c256_i32_3040 : BitVec 32 := 256#32
  let v3089 : BitVec 32 := Scalar.muli v3080 c256_i32_3040
  let c0_i32_3043 : BitVec 32 := 0#32
  ![v3089.toNat, 0]
def k0_dev120 (d0 : Dev nD) : Nat :=
  let c0_i32_3057 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3056 : BitVec 32 := 1#32
  let v3101 : BitVec 32 := Scalar.muli v13 c1_i32_3056
  let v3102 : BitVec 32 := Scalar.addi c0_i32_3057 v3101
  v3102.toNat
def k0_dev121 (d0 : Dev nD) : Nat :=
  let c0_i32_3081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3080 : BitVec 32 := 1#32
  let v3117 : BitVec 32 := Scalar.muli v13 c1_i32_3080
  let v3118 : BitVec 32 := Scalar.addi c0_i32_3081 v3117
  v3118.toNat
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_3086 : BitVec 32 := 4294967295#32
  let v3127 : BitVec 32 := Scalar.addi v2 c_m1_i32_3086
  let c16_i32_3087 : BitVec 32 := 16#32
  let c0_i32_3088 : BitVec 32 := 0#32
  let v3128 : BitVec 1 := Scalar.cmpi .eq c16_i32_3087 c0_i32_3088
  let c1_i32_3089 : BitVec 32 := 1#32
  let v3129 : BitVec 32 := Scalar.select v3128 c1_i32_3089 c16_i32_3087
  let v3130 : BitVec 32 := Scalar.remsi v3127 v3129
  let c0_i32_3091 : BitVec 32 := 0#32
  let v3132 : BitVec 1 := Scalar.cmpi .slt v3130 c0_i32_3091
  let c0_i32_3092 : BitVec 32 := 0#32
  let v3133 : BitVec 1 := Scalar.cmpi .slt v3129 c0_i32_3092
  let v3134 : BitVec 1 := Scalar.xori v3132 v3133
  let c0_i32_3090 : BitVec 32 := 0#32
  let v3131 : BitVec 1 := Scalar.cmpi .ne v3130 c0_i32_3090
  let v3135 : BitVec 1 := Scalar.andi v3134 v3131
  let v3136 : BitVec 32 := Scalar.addi v3130 v3129
  let v3137 : BitVec 32 := Scalar.select v3135 v3136 v3130
  let c256_i32_3100 : BitVec 32 := 256#32
  let v3146 : BitVec 32 := Scalar.muli v3137 c256_i32_3100
  let c4096_i32 : BitVec 32 := 4096#32
  ![v3146.toNat, 4096]
def k0_dev122 (d0 : Dev nD) : Nat :=
  let c0_i32_3116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3115 : BitVec 32 := 1#32
  let v3158 : BitVec 32 := Scalar.muli v24 c1_i32_3115
  let v3159 : BitVec 32 := Scalar.addi c0_i32_3116 v3158
  v3159.toNat
def k0_dev123 (d0 : Dev nD) : Nat :=
  let c0_i32_3140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3139 : BitVec 32 := 1#32
  let v3174 : BitVec 32 := Scalar.muli v24 c1_i32_3139
  let v3175 : BitVec 32 := Scalar.addi c0_i32_3140 v3174
  v3175.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3145 : BitVec 32 := 1#32
  let v3184 : BitVec 32 := Scalar.addi v2 c1_i32_3145
  let c16_i32_3146 : BitVec 32 := 16#32
  let c0_i32_3147 : BitVec 32 := 0#32
  let v3185 : BitVec 1 := Scalar.cmpi .eq c16_i32_3146 c0_i32_3147
  let c1_i32_3148 : BitVec 32 := 1#32
  let v3186 : BitVec 32 := Scalar.select v3185 c1_i32_3148 c16_i32_3146
  let v3187 : BitVec 32 := Scalar.remsi v3184 v3186
  let c0_i32_3150 : BitVec 32 := 0#32
  let v3189 : BitVec 1 := Scalar.cmpi .slt v3187 c0_i32_3150
  let c0_i32_3151 : BitVec 32 := 0#32
  let v3190 : BitVec 1 := Scalar.cmpi .slt v3186 c0_i32_3151
  let v3191 : BitVec 1 := Scalar.xori v3189 v3190
  let c0_i32_3149 : BitVec 32 := 0#32
  let v3188 : BitVec 1 := Scalar.cmpi .ne v3187 c0_i32_3149
  let v3192 : BitVec 1 := Scalar.andi v3191 v3188
  let v3193 : BitVec 32 := Scalar.addi v3187 v3186
  let v3194 : BitVec 32 := Scalar.select v3192 v3193 v3187
  let c256_i32_3159 : BitVec 32 := 256#32
  let v3203 : BitVec 32 := Scalar.muli v3194 c256_i32_3159
  let c2048_i32 : BitVec 32 := 2048#32
  ![v3203.toNat, 2048]
def k0_dev124 (d0 : Dev nD) : Nat :=
  let c0_i32_3175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3174 : BitVec 32 := 1#32
  let v3215 : BitVec 32 := Scalar.muli v13 c1_i32_3174
  let v3216 : BitVec 32 := Scalar.addi c0_i32_3175 v3215
  v3216.toNat
def k0_dev125 (d0 : Dev nD) : Nat :=
  let c0_i32_3199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3198 : BitVec 32 := 1#32
  let v3231 : BitVec 32 := Scalar.muli v13 c1_i32_3198
  let v3232 : BitVec 32 := Scalar.addi c0_i32_3199 v3231
  v3232.toNat
def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c_m1_i32_3204 : BitVec 32 := 4294967295#32
  let v3241 : BitVec 32 := Scalar.addi v2 c_m1_i32_3204
  let c16_i32_3205 : BitVec 32 := 16#32
  let c0_i32_3206 : BitVec 32 := 0#32
  let v3242 : BitVec 1 := Scalar.cmpi .eq c16_i32_3205 c0_i32_3206
  let c1_i32_3207 : BitVec 32 := 1#32
  let v3243 : BitVec 32 := Scalar.select v3242 c1_i32_3207 c16_i32_3205
  let v3244 : BitVec 32 := Scalar.remsi v3241 v3243
  let c0_i32_3209 : BitVec 32 := 0#32
  let v3246 : BitVec 1 := Scalar.cmpi .slt v3244 c0_i32_3209
  let c0_i32_3210 : BitVec 32 := 0#32
  let v3247 : BitVec 1 := Scalar.cmpi .slt v3243 c0_i32_3210
  let v3248 : BitVec 1 := Scalar.xori v3246 v3247
  let c0_i32_3208 : BitVec 32 := 0#32
  let v3245 : BitVec 1 := Scalar.cmpi .ne v3244 c0_i32_3208
  let v3249 : BitVec 1 := Scalar.andi v3248 v3245
  let v3250 : BitVec 32 := Scalar.addi v3244 v3243
  let v3251 : BitVec 32 := Scalar.select v3249 v3250 v3244
  let c256_i32_3218 : BitVec 32 := 256#32
  let v3260 : BitVec 32 := Scalar.muli v3251 c256_i32_3218
  let c6144_i32 : BitVec 32 := 6144#32
  ![v3260.toNat, 6144]
def k0_dev126 (d0 : Dev nD) : Nat :=
  let c0_i32_3234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3233 : BitVec 32 := 1#32
  let v3272 : BitVec 32 := Scalar.muli v24 c1_i32_3233
  let v3273 : BitVec 32 := Scalar.addi c0_i32_3234 v3272
  v3273.toNat
def k0_off7 (d0 : Dev nD) (c0_i32_3245 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3282 : BitVec 32 := Scalar.subi v2 c0_i32_3245
  let c16_i32_3246 : BitVec 32 := 16#32
  let c0_i32_3247 : BitVec 32 := 0#32
  let v3283 : BitVec 1 := Scalar.cmpi .eq c16_i32_3246 c0_i32_3247
  let c1_i32_3248 : BitVec 32 := 1#32
  let v3284 : BitVec 32 := Scalar.select v3283 c1_i32_3248 c16_i32_3246
  let v3285 : BitVec 32 := Scalar.remsi v3282 v3284
  let c0_i32_3250 : BitVec 32 := 0#32
  let v3287 : BitVec 1 := Scalar.cmpi .slt v3285 c0_i32_3250
  let c0_i32_3251 : BitVec 32 := 0#32
  let v3288 : BitVec 1 := Scalar.cmpi .slt v3284 c0_i32_3251
  let v3289 : BitVec 1 := Scalar.xori v3287 v3288
  let c0_i32_3249 : BitVec 32 := 0#32
  let v3286 : BitVec 1 := Scalar.cmpi .ne v3285 c0_i32_3249
  let v3290 : BitVec 1 := Scalar.andi v3289 v3286
  let v3291 : BitVec 32 := Scalar.addi v3285 v3284
  let v3292 : BitVec 32 := Scalar.select v3290 v3291 v3285
  let c256_i32_3259 : BitVec 32 := 256#32
  let v3301 : BitVec 32 := Scalar.muli v3292 c256_i32_3259
  let c0_i32_3262 : BitVec 32 := 0#32
  ![v3301.toNat, 0]
def k0_dev127 (d0 : Dev nD) : Nat :=
  let c0_i32_3272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3271 : BitVec 32 := 1#32
  let v3307 : BitVec 32 := Scalar.muli v24 c1_i32_3271
  let v3308 : BitVec 32 := Scalar.addi c0_i32_3272 v3307
  v3308.toNat
def k0_dev128 (d0 : Dev nD) : Nat :=
  let c0_i32_3288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3287 : BitVec 32 := 1#32
  let v3323 : BitVec 32 := Scalar.muli v13 c1_i32_3287
  let v3324 : BitVec 32 := Scalar.addi c0_i32_3288 v3323
  v3324.toNat
def k0_off8 (d0 : Dev nD) (c0_i32_3299 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3333 : BitVec 32 := Scalar.subi v2 c0_i32_3299
  let c16_i32_3300 : BitVec 32 := 16#32
  let c0_i32_3301 : BitVec 32 := 0#32
  let v3334 : BitVec 1 := Scalar.cmpi .eq c16_i32_3300 c0_i32_3301
  let c1_i32_3302 : BitVec 32 := 1#32
  let v3335 : BitVec 32 := Scalar.select v3334 c1_i32_3302 c16_i32_3300
  let v3336 : BitVec 32 := Scalar.remsi v3333 v3335
  let c0_i32_3304 : BitVec 32 := 0#32
  let v3338 : BitVec 1 := Scalar.cmpi .slt v3336 c0_i32_3304
  let c0_i32_3305 : BitVec 32 := 0#32
  let v3339 : BitVec 1 := Scalar.cmpi .slt v3335 c0_i32_3305
  let v3340 : BitVec 1 := Scalar.xori v3338 v3339
  let c0_i32_3303 : BitVec 32 := 0#32
  let v3337 : BitVec 1 := Scalar.cmpi .ne v3336 c0_i32_3303
  let v3341 : BitVec 1 := Scalar.andi v3340 v3337
  let v3342 : BitVec 32 := Scalar.addi v3336 v3335
  let v3343 : BitVec 32 := Scalar.select v3341 v3342 v3336
  let c256_i32_3313 : BitVec 32 := 256#32
  let v3352 : BitVec 32 := Scalar.muli v3343 c256_i32_3313
  let c4096_i32_3316 : BitVec 32 := 4096#32
  ![v3352.toNat, 4096]
def k0_off8_at (r : Fin 15) : BitVec 32 :=
  if r.val < 7 then
    if r.val < 3 then
      if r.val < 1 then
        0#32
      else
        if r.val < 2 then
          4294967295#32
        else
          4294967294#32
    else
      if r.val < 5 then
        if r.val < 4 then
          4294967293#32
        else
          4294967292#32
      else
        if r.val < 6 then
          4294967291#32
        else
          4294967290#32
  else
    if r.val < 11 then
      if r.val < 9 then
        if r.val < 8 then
          4294967289#32
        else
          4294967288#32
      else
        if r.val < 10 then
          4294967287#32
        else
          4294967286#32
    else
      if r.val < 13 then
        if r.val < 12 then
          4294967285#32
        else
          4294967284#32
      else
        if r.val < 14 then
          4294967283#32
        else
          4294967282#32
def k0_dev129 (d0 : Dev nD) : Nat :=
  let c0_i32_3326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3325 : BitVec 32 := 1#32
  let v3358 : BitVec 32 := Scalar.muli v13 c1_i32_3325
  let v3359 : BitVec 32 := Scalar.addi c0_i32_3326 v3358
  v3359.toNat
def k0_dev130 (d0 : Dev nD) : Nat :=
  let c0_i32_3342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3341 : BitVec 32 := 1#32
  let v3374 : BitVec 32 := Scalar.muli v24 c1_i32_3341
  let v3375 : BitVec 32 := Scalar.addi c0_i32_3342 v3374
  v3375.toNat
def k0_off9 (d0 : Dev nD) (c0_i32_3353 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3384 : BitVec 32 := Scalar.subi v2 c0_i32_3353
  let c16_i32_3354 : BitVec 32 := 16#32
  let c0_i32_3355 : BitVec 32 := 0#32
  let v3385 : BitVec 1 := Scalar.cmpi .eq c16_i32_3354 c0_i32_3355
  let c1_i32_3356 : BitVec 32 := 1#32
  let v3386 : BitVec 32 := Scalar.select v3385 c1_i32_3356 c16_i32_3354
  let v3387 : BitVec 32 := Scalar.remsi v3384 v3386
  let c0_i32_3358 : BitVec 32 := 0#32
  let v3389 : BitVec 1 := Scalar.cmpi .slt v3387 c0_i32_3358
  let c0_i32_3359 : BitVec 32 := 0#32
  let v3390 : BitVec 1 := Scalar.cmpi .slt v3386 c0_i32_3359
  let v3391 : BitVec 1 := Scalar.xori v3389 v3390
  let c0_i32_3357 : BitVec 32 := 0#32
  let v3388 : BitVec 1 := Scalar.cmpi .ne v3387 c0_i32_3357
  let v3392 : BitVec 1 := Scalar.andi v3391 v3388
  let v3393 : BitVec 32 := Scalar.addi v3387 v3386
  let v3394 : BitVec 32 := Scalar.select v3392 v3393 v3387
  let c256_i32_3367 : BitVec 32 := 256#32
  let v3403 : BitVec 32 := Scalar.muli v3394 c256_i32_3367
  let c2048_i32_3370 : BitVec 32 := 2048#32
  ![v3403.toNat, 2048]
def k0_dev131 (d0 : Dev nD) : Nat :=
  let c0_i32_3380 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3379 : BitVec 32 := 1#32
  let v3409 : BitVec 32 := Scalar.muli v24 c1_i32_3379
  let v3410 : BitVec 32 := Scalar.addi c0_i32_3380 v3409
  v3410.toNat
def k0_dev132 (d0 : Dev nD) : Nat :=
  let c0_i32_3396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3395 : BitVec 32 := 1#32
  let v3425 : BitVec 32 := Scalar.muli v13 c1_i32_3395
  let v3426 : BitVec 32 := Scalar.addi c0_i32_3396 v3425
  v3426.toNat
def k0_off10 (d0 : Dev nD) (c0_i32_3407 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v3435 : BitVec 32 := Scalar.subi v2 c0_i32_3407
  let c16_i32_3408 : BitVec 32 := 16#32
  let c0_i32_3409 : BitVec 32 := 0#32
  let v3436 : BitVec 1 := Scalar.cmpi .eq c16_i32_3408 c0_i32_3409
  let c1_i32_3410 : BitVec 32 := 1#32
  let v3437 : BitVec 32 := Scalar.select v3436 c1_i32_3410 c16_i32_3408
  let v3438 : BitVec 32 := Scalar.remsi v3435 v3437
  let c0_i32_3412 : BitVec 32 := 0#32
  let v3440 : BitVec 1 := Scalar.cmpi .slt v3438 c0_i32_3412
  let c0_i32_3413 : BitVec 32 := 0#32
  let v3441 : BitVec 1 := Scalar.cmpi .slt v3437 c0_i32_3413
  let v3442 : BitVec 1 := Scalar.xori v3440 v3441
  let c0_i32_3411 : BitVec 32 := 0#32
  let v3439 : BitVec 1 := Scalar.cmpi .ne v3438 c0_i32_3411
  let v3443 : BitVec 1 := Scalar.andi v3442 v3439
  let v3444 : BitVec 32 := Scalar.addi v3438 v3437
  let v3445 : BitVec 32 := Scalar.select v3443 v3444 v3438
  let c256_i32_3421 : BitVec 32 := 256#32
  let v3454 : BitVec 32 := Scalar.muli v3445 c256_i32_3421
  let c6144_i32_3424 : BitVec 32 := 6144#32
  ![v3454.toNat, 6144]
def k0_off10_at (r : Fin 15) : BitVec 32 :=
  if r.val < 7 then
    if r.val < 3 then
      if r.val < 1 then
        0#32
      else
        if r.val < 2 then
          4294967295#32
        else
          4294967294#32
    else
      if r.val < 5 then
        if r.val < 4 then
          4294967293#32
        else
          4294967292#32
      else
        if r.val < 6 then
          4294967291#32
        else
          4294967290#32
  else
    if r.val < 11 then
      if r.val < 9 then
        if r.val < 8 then
          4294967289#32
        else
          4294967288#32
      else
        if r.val < 10 then
          4294967287#32
        else
          4294967286#32
    else
      if r.val < 13 then
        if r.val < 12 then
          4294967285#32
        else
          4294967284#32
      else
        if r.val < 14 then
          4294967283#32
        else
          4294967282#32
def k0_dev133 (d0 : Dev nD) : Nat :=
  let c0_i32_3434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3433 : BitVec 32 := 1#32
  let v3460 : BitVec 32 := Scalar.muli v13 c1_i32_3433
  let v3461 : BitVec 32 := Scalar.addi c0_i32_3434 v3460
  v3461.toNat
def k0_dev134 (d0 : Dev nD) : Nat :=
  let c0_i32_3450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3449 : BitVec 32 := 1#32
  let v3476 : BitVec 32 := Scalar.muli v24 c1_i32_3449
  let v3477 : BitVec 32 := Scalar.addi c0_i32_3450 v3476
  v3477.toNat
def k0_dev135 (d0 : Dev nD) : Nat :=
  let c0_i32_3493 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3492 : BitVec 32 := 1#32
  let v3516 : BitVec 32 := Scalar.muli v24 c1_i32_3492
  let v3517 : BitVec 32 := Scalar.addi c0_i32_3493 v3516
  v3517.toNat
def k0_dev136 (d0 : Dev nD) : Nat :=
  let c0_i32_3509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3508 : BitVec 32 := 1#32
  let v3532 : BitVec 32 := Scalar.muli v13 c1_i32_3508
  let v3533 : BitVec 32 := Scalar.addi c0_i32_3509 v3532
  v3533.toNat
def k0_dev137 (d0 : Dev nD) : Nat :=
  let c0_i32_3552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3551 : BitVec 32 := 1#32
  let v3572 : BitVec 32 := Scalar.muli v13 c1_i32_3551
  let v3573 : BitVec 32 := Scalar.addi c0_i32_3552 v3572
  v3573.toNat
def k0_dev138 (d0 : Dev nD) : Nat :=
  let c0_i32_3568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3567 : BitVec 32 := 1#32
  let v3588 : BitVec 32 := Scalar.muli v24 c1_i32_3567
  let v3589 : BitVec 32 := Scalar.addi c0_i32_3568 v3588
  v3589.toNat
def k0_dev139 (d0 : Dev nD) : Nat :=
  let c0_i32_3611 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3610 : BitVec 32 := 1#32
  let v3628 : BitVec 32 := Scalar.muli v24 c1_i32_3610
  let v3629 : BitVec 32 := Scalar.addi c0_i32_3611 v3628
  v3629.toNat
def k0_dev140 (d0 : Dev nD) : Nat :=
  let c0_i32_3627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3626 : BitVec 32 := 1#32
  let v3644 : BitVec 32 := Scalar.muli v13 c1_i32_3626
  let v3645 : BitVec 32 := Scalar.addi c0_i32_3627 v3644
  v3645.toNat
def k0_dev141 (d0 : Dev nD) : Nat :=
  let c0_i32_3670 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3669 : BitVec 32 := 1#32
  let v3684 : BitVec 32 := Scalar.muli v13 c1_i32_3669
  let v3685 : BitVec 32 := Scalar.addi c0_i32_3670 v3684
  v3685.toNat
def k0_dev142 (d0 : Dev nD) : Nat :=
  let c0_i32_3686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3685 : BitVec 32 := 1#32
  let v3700 : BitVec 32 := Scalar.muli v24 c1_i32_3685
  let v3701 : BitVec 32 := Scalar.addi c0_i32_3686 v3700
  v3701.toNat
def k0_dev143 (d0 : Dev nD) : Nat :=
  let c0_i32_3729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3728 : BitVec 32 := 1#32
  let v3740 : BitVec 32 := Scalar.muli v24 c1_i32_3728
  let v3741 : BitVec 32 := Scalar.addi c0_i32_3729 v3740
  v3741.toNat
def k0_dev144 (d0 : Dev nD) : Nat :=
  let c0_i32_3745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3744 : BitVec 32 := 1#32
  let v3756 : BitVec 32 := Scalar.muli v13 c1_i32_3744
  let v3757 : BitVec 32 := Scalar.addi c0_i32_3745 v3756
  v3757.toNat
def k0_dev145 (d0 : Dev nD) : Nat :=
  let c0_i32_3788 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3787 : BitVec 32 := 1#32
  let v3796 : BitVec 32 := Scalar.muli v13 c1_i32_3787
  let v3797 : BitVec 32 := Scalar.addi c0_i32_3788 v3796
  v3797.toNat
def k0_dev146 (d0 : Dev nD) : Nat :=
  let c0_i32_3804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3803 : BitVec 32 := 1#32
  let v3812 : BitVec 32 := Scalar.muli v24 c1_i32_3803
  let v3813 : BitVec 32 := Scalar.addi c0_i32_3804 v3812
  v3813.toNat
def k0_dev147 (d0 : Dev nD) : Nat :=
  let c0_i32_3847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3846 : BitVec 32 := 1#32
  let v3852 : BitVec 32 := Scalar.muli v24 c1_i32_3846
  let v3853 : BitVec 32 := Scalar.addi c0_i32_3847 v3852
  v3853.toNat
def k0_dev148 (d0 : Dev nD) : Nat :=
  let c0_i32_3863 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3862 : BitVec 32 := 1#32
  let v3868 : BitVec 32 := Scalar.muli v13 c1_i32_3862
  let v3869 : BitVec 32 := Scalar.addi c0_i32_3863 v3868
  v3869.toNat
def k0_dev149 (d0 : Dev nD) : Nat :=
  let c0_i32_3906 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3905 : BitVec 32 := 1#32
  let v3908 : BitVec 32 := Scalar.muli v13 c1_i32_3905
  let v3909 : BitVec 32 := Scalar.addi c0_i32_3906 v3908
  v3909.toNat
def k0_dev150 (d0 : Dev nD) : Nat :=
  let c0_i32_3922 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3921 : BitVec 32 := 1#32
  let v3924 : BitVec 32 := Scalar.muli v24 c1_i32_3921
  let v3925 : BitVec 32 := Scalar.addi c0_i32_3922 v3924
  v3925.toNat
def k0_dev151 (d0 : Dev nD) : Nat :=
  let c0_i32_3965 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3964 : BitVec 32 := 1#32
  let v3964 : BitVec 32 := Scalar.muli v24 c1_i32_3964
  let v3965 : BitVec 32 := Scalar.addi c0_i32_3965 v3964
  v3965.toNat
def k0_dev152 (d0 : Dev nD) : Nat :=
  let c0_i32_3981 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3980 : BitVec 32 := 1#32
  let v3980 : BitVec 32 := Scalar.muli v13 c1_i32_3980
  let v3981 : BitVec 32 := Scalar.addi c0_i32_3981 v3980
  v3981.toNat
def k0_dev153 (d0 : Dev nD) : Nat :=
  let c0_i32_4024 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4023 : BitVec 32 := 1#32
  let v4020 : BitVec 32 := Scalar.muli v13 c1_i32_4023
  let v4021 : BitVec 32 := Scalar.addi c0_i32_4024 v4020
  v4021.toNat
def k0_dev154 (d0 : Dev nD) : Nat :=
  let c0_i32_4040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4039 : BitVec 32 := 1#32
  let v4036 : BitVec 32 := Scalar.muli v24 c1_i32_4039
  let v4037 : BitVec 32 := Scalar.addi c0_i32_4040 v4036
  v4037.toNat
def k0_dev155 (d0 : Dev nD) : Nat :=
  let c0_i32_4083 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4082 : BitVec 32 := 1#32
  let v4076 : BitVec 32 := Scalar.muli v24 c1_i32_4082
  let v4077 : BitVec 32 := Scalar.addi c0_i32_4083 v4076
  v4077.toNat
def k0_dev156 (d0 : Dev nD) : Nat :=
  let c0_i32_4099 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4098 : BitVec 32 := 1#32
  let v4092 : BitVec 32 := Scalar.muli v13 c1_i32_4098
  let v4093 : BitVec 32 := Scalar.addi c0_i32_4099 v4092
  v4093.toNat
def k0_dev157 (d0 : Dev nD) : Nat :=
  let c0_i32_4142 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4141 : BitVec 32 := 1#32
  let v4132 : BitVec 32 := Scalar.muli v13 c1_i32_4141
  let v4133 : BitVec 32 := Scalar.addi c0_i32_4142 v4132
  v4133.toNat
def k0_dev158 (d0 : Dev nD) : Nat :=
  let c0_i32_4158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4157 : BitVec 32 := 1#32
  let v4148 : BitVec 32 := Scalar.muli v24 c1_i32_4157
  let v4149 : BitVec 32 := Scalar.addi c0_i32_4158 v4148
  v4149.toNat
def k0_dev159 (d0 : Dev nD) : Nat :=
  let c0_i32_4201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4200 : BitVec 32 := 1#32
  let v4188 : BitVec 32 := Scalar.muli v24 c1_i32_4200
  let v4189 : BitVec 32 := Scalar.addi c0_i32_4201 v4188
  v4189.toNat
def k0_dev160 (d0 : Dev nD) : Nat :=
  let c0_i32_4217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4216 : BitVec 32 := 1#32
  let v4204 : BitVec 32 := Scalar.muli v13 c1_i32_4216
  let v4205 : BitVec 32 := Scalar.addi c0_i32_4217 v4204
  v4205.toNat
def k0_dev161 (d0 : Dev nD) : Nat :=
  let c0_i32_4260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4259 : BitVec 32 := 1#32
  let v4244 : BitVec 32 := Scalar.muli v13 c1_i32_4259
  let v4245 : BitVec 32 := Scalar.addi c0_i32_4260 v4244
  v4245.toNat
def k0_dev162 (d0 : Dev nD) : Nat :=
  let c0_i32_4276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4275 : BitVec 32 := 1#32
  let v4260 : BitVec 32 := Scalar.muli v24 c1_i32_4275
  let v4261 : BitVec 32 := Scalar.addi c0_i32_4276 v4260
  v4261.toNat
def k0_dev163 (d0 : Dev nD) : Nat :=
  let c0_i32_4319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4318 : BitVec 32 := 1#32
  let v4300 : BitVec 32 := Scalar.muli v24 c1_i32_4318
  let v4301 : BitVec 32 := Scalar.addi c0_i32_4319 v4300
  v4301.toNat
def k0_dev164 (d0 : Dev nD) : Nat :=
  let c0_i32_4335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4334 : BitVec 32 := 1#32
  let v4316 : BitVec 32 := Scalar.muli v13 c1_i32_4334
  let v4317 : BitVec 32 := Scalar.addi c0_i32_4335 v4316
  v4317.toNat
def k0_dev165 (d0 : Dev nD) : Nat :=
  let c0_i32_4378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4377 : BitVec 32 := 1#32
  let v4356 : BitVec 32 := Scalar.muli v13 c1_i32_4377
  let v4357 : BitVec 32 := Scalar.addi c0_i32_4378 v4356
  v4357.toNat
def k0_dev166 (d0 : Dev nD) : Nat :=
  let c0_i32_4394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4393 : BitVec 32 := 1#32
  let v4372 : BitVec 32 := Scalar.muli v24 c1_i32_4393
  let v4373 : BitVec 32 := Scalar.addi c0_i32_4394 v4372
  v4373.toNat
def k0_dev167 (d0 : Dev nD) : Nat :=
  let c0_i32_4437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4436 : BitVec 32 := 1#32
  let v4412 : BitVec 32 := Scalar.muli v24 c1_i32_4436
  let v4413 : BitVec 32 := Scalar.addi c0_i32_4437 v4412
  v4413.toNat
def k0_dev168 (d0 : Dev nD) : Nat :=
  let c0_i32_4453 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4452 : BitVec 32 := 1#32
  let v4428 : BitVec 32 := Scalar.muli v13 c1_i32_4452
  let v4429 : BitVec 32 := Scalar.addi c0_i32_4453 v4428
  v4429.toNat
def k0_dev169 (d0 : Dev nD) : Nat :=
  let c0_i32_4496 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4495 : BitVec 32 := 1#32
  let v4468 : BitVec 32 := Scalar.muli v13 c1_i32_4495
  let v4469 : BitVec 32 := Scalar.addi c0_i32_4496 v4468
  v4469.toNat
def k0_dev170 (d0 : Dev nD) : Nat :=
  let c0_i32_4512 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4511 : BitVec 32 := 1#32
  let v4484 : BitVec 32 := Scalar.muli v24 c1_i32_4511
  let v4485 : BitVec 32 := Scalar.addi c0_i32_4512 v4484
  v4485.toNat
def k0_dev171 (d0 : Dev nD) : Nat :=
  let c0_i32_4555 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4554 : BitVec 32 := 1#32
  let v4524 : BitVec 32 := Scalar.muli v24 c1_i32_4554
  let v4525 : BitVec 32 := Scalar.addi c0_i32_4555 v4524
  v4525.toNat
def k0_dev172 (d0 : Dev nD) : Nat :=
  let c0_i32_4571 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4570 : BitVec 32 := 1#32
  let v4540 : BitVec 32 := Scalar.muli v13 c1_i32_4570
  let v4541 : BitVec 32 := Scalar.addi c0_i32_4571 v4540
  v4541.toNat
def k0_dev173 (d0 : Dev nD) : Nat :=
  let c0_i32_4614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4613 : BitVec 32 := 1#32
  let v4580 : BitVec 32 := Scalar.muli v13 c1_i32_4613
  let v4581 : BitVec 32 := Scalar.addi c0_i32_4614 v4580
  v4581.toNat
def k0_dev174 (d0 : Dev nD) : Nat :=
  let c0_i32_4630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4629 : BitVec 32 := 1#32
  let v4596 : BitVec 32 := Scalar.muli v24 c1_i32_4629
  let v4597 : BitVec 32 := Scalar.addi c0_i32_4630 v4596
  v4597.toNat
def k0_dev175 (d0 : Dev nD) : Nat :=
  let c0_i32_4673 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4672 : BitVec 32 := 1#32
  let v4636 : BitVec 32 := Scalar.muli v24 c1_i32_4672
  let v4637 : BitVec 32 := Scalar.addi c0_i32_4673 v4636
  v4637.toNat
def k0_dev176 (d0 : Dev nD) : Nat :=
  let c0_i32_4689 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4688 : BitVec 32 := 1#32
  let v4652 : BitVec 32 := Scalar.muli v13 c1_i32_4688
  let v4653 : BitVec 32 := Scalar.addi c0_i32_4689 v4652
  v4653.toNat
def k0_dev177 (d0 : Dev nD) : Nat :=
  let c0_i32_4732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4731 : BitVec 32 := 1#32
  let v4692 : BitVec 32 := Scalar.muli v13 c1_i32_4731
  let v4693 : BitVec 32 := Scalar.addi c0_i32_4732 v4692
  v4693.toNat
def k0_dev178 (d0 : Dev nD) : Nat :=
  let c0_i32_4748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4747 : BitVec 32 := 1#32
  let v4708 : BitVec 32 := Scalar.muli v24 c1_i32_4747
  let v4709 : BitVec 32 := Scalar.addi c0_i32_4748 v4708
  v4709.toNat
def k0_dev179 (d0 : Dev nD) : Nat :=
  let c0_i32_4791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4790 : BitVec 32 := 1#32
  let v4748 : BitVec 32 := Scalar.muli v24 c1_i32_4790
  let v4749 : BitVec 32 := Scalar.addi c0_i32_4791 v4748
  v4749.toNat
def k0_dev180 (d0 : Dev nD) : Nat :=
  let c0_i32_4807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4806 : BitVec 32 := 1#32
  let v4764 : BitVec 32 := Scalar.muli v13 c1_i32_4806
  let v4765 : BitVec 32 := Scalar.addi c0_i32_4807 v4764
  v4765.toNat
def k0_dev181 (d0 : Dev nD) : Nat :=
  let c0_i32_4850 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4849 : BitVec 32 := 1#32
  let v4804 : BitVec 32 := Scalar.muli v13 c1_i32_4849
  let v4805 : BitVec 32 := Scalar.addi c0_i32_4850 v4804
  v4805.toNat
def k0_dev182 (d0 : Dev nD) : Nat :=
  let c0_i32_4866 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4865 : BitVec 32 := 1#32
  let v4820 : BitVec 32 := Scalar.muli v24 c1_i32_4865
  let v4821 : BitVec 32 := Scalar.addi c0_i32_4866 v4820
  v4821.toNat
def k0_dev183 (d0 : Dev nD) : Nat :=
  let c0_i32_4909 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4908 : BitVec 32 := 1#32
  let v4860 : BitVec 32 := Scalar.muli v24 c1_i32_4908
  let v4861 : BitVec 32 := Scalar.addi c0_i32_4909 v4860
  v4861.toNat
def k0_dev184 (d0 : Dev nD) : Nat :=
  let c0_i32_4925 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4924 : BitVec 32 := 1#32
  let v4876 : BitVec 32 := Scalar.muli v13 c1_i32_4924
  let v4877 : BitVec 32 := Scalar.addi c0_i32_4925 v4876
  v4877.toNat
def k0_dev185 (d0 : Dev nD) : Nat :=
  let c0_i32_4968 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4967 : BitVec 32 := 1#32
  let v4916 : BitVec 32 := Scalar.muli v13 c1_i32_4967
  let v4917 : BitVec 32 := Scalar.addi c0_i32_4968 v4916
  v4917.toNat
def k0_dev186 (d0 : Dev nD) : Nat :=
  let c0_i32_4984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4983 : BitVec 32 := 1#32
  let v4932 : BitVec 32 := Scalar.muli v24 c1_i32_4983
  let v4933 : BitVec 32 := Scalar.addi c0_i32_4984 v4932
  v4933.toNat
def k0_dev187 (d0 : Dev nD) : Nat :=
  let c0_i32_5027 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5026 : BitVec 32 := 1#32
  let v4972 : BitVec 32 := Scalar.muli v24 c1_i32_5026
  let v4973 : BitVec 32 := Scalar.addi c0_i32_5027 v4972
  v4973.toNat
def k0_dev188 (d0 : Dev nD) : Nat :=
  let c0_i32_5043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5042 : BitVec 32 := 1#32
  let v4988 : BitVec 32 := Scalar.muli v13 c1_i32_5042
  let v4989 : BitVec 32 := Scalar.addi c0_i32_5043 v4988
  v4989.toNat
def k0_dev189 (d0 : Dev nD) : Nat :=
  let c0_i32_5086 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5085 : BitVec 32 := 1#32
  let v5028 : BitVec 32 := Scalar.muli v13 c1_i32_5085
  let v5029 : BitVec 32 := Scalar.addi c0_i32_5086 v5028
  v5029.toNat
def k0_dev190 (d0 : Dev nD) : Nat :=
  let c0_i32_5102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5101 : BitVec 32 := 1#32
  let v5044 : BitVec 32 := Scalar.muli v24 c1_i32_5101
  let v5045 : BitVec 32 := Scalar.addi c0_i32_5102 v5044
  v5045.toNat
def k0_dev191 (d0 : Dev nD) : Nat :=
  let c0_i32_5145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5144 : BitVec 32 := 1#32
  let v5084 : BitVec 32 := Scalar.muli v24 c1_i32_5144
  let v5085 : BitVec 32 := Scalar.addi c0_i32_5145 v5084
  v5085.toNat
def k0_dev192 (d0 : Dev nD) : Nat :=
  let c0_i32_5161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5160 : BitVec 32 := 1#32
  let v5100 : BitVec 32 := Scalar.muli v13 c1_i32_5160
  let v5101 : BitVec 32 := Scalar.addi c0_i32_5161 v5100
  v5101.toNat
def k0_dev193 (d0 : Dev nD) : Nat :=
  let c0_i32_5204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5203 : BitVec 32 := 1#32
  let v5140 : BitVec 32 := Scalar.muli v13 c1_i32_5203
  let v5141 : BitVec 32 := Scalar.addi c0_i32_5204 v5140
  v5141.toNat
def k0_dev194 (d0 : Dev nD) : Nat :=
  let c0_i32_5220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5219 : BitVec 32 := 1#32
  let v5156 : BitVec 32 := Scalar.muli v24 c1_i32_5219
  let v5157 : BitVec 32 := Scalar.addi c0_i32_5220 v5156
  v5157.toNat
def k0_dev195 (d0 : Dev nD) : Nat :=
  let c0_i32_5263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5262 : BitVec 32 := 1#32
  let v5196 : BitVec 32 := Scalar.muli v24 c1_i32_5262
  let v5197 : BitVec 32 := Scalar.addi c0_i32_5263 v5196
  v5197.toNat
def k0_dev196 (d0 : Dev nD) : Nat :=
  let c0_i32_5279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5278 : BitVec 32 := 1#32
  let v5212 : BitVec 32 := Scalar.muli v13 c1_i32_5278
  let v5213 : BitVec 32 := Scalar.addi c0_i32_5279 v5212
  v5213.toNat
def k0_dev197 (d0 : Dev nD) : Nat :=
  let c0_i32_5322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5321 : BitVec 32 := 1#32
  let v5252 : BitVec 32 := Scalar.muli v13 c1_i32_5321
  let v5253 : BitVec 32 := Scalar.addi c0_i32_5322 v5252
  v5253.toNat
def k0_dev198 (d0 : Dev nD) : Nat :=
  let c0_i32_5338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5337 : BitVec 32 := 1#32
  let v5268 : BitVec 32 := Scalar.muli v24 c1_i32_5337
  let v5269 : BitVec 32 := Scalar.addi c0_i32_5338 v5268
  v5269.toNat
def k0_dev199 (d0 : Dev nD) : Nat :=
  let c0_i32_5381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5380 : BitVec 32 := 1#32
  let v5308 : BitVec 32 := Scalar.muli v24 c1_i32_5380
  let v5309 : BitVec 32 := Scalar.addi c0_i32_5381 v5308
  v5309.toNat
def k0_dev200 (d0 : Dev nD) : Nat :=
  let c0_i32_5397 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5396 : BitVec 32 := 1#32
  let v5324 : BitVec 32 := Scalar.muli v13 c1_i32_5396
  let v5325 : BitVec 32 := Scalar.addi c0_i32_5397 v5324
  v5325.toNat
def k0_dev201 (d0 : Dev nD) : Nat :=
  let c0_i32_5440 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5439 : BitVec 32 := 1#32
  let v5364 : BitVec 32 := Scalar.muli v13 c1_i32_5439
  let v5365 : BitVec 32 := Scalar.addi c0_i32_5440 v5364
  v5365.toNat
def k0_dev202 (d0 : Dev nD) : Nat :=
  let c0_i32_5456 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5455 : BitVec 32 := 1#32
  let v5380 : BitVec 32 := Scalar.muli v24 c1_i32_5455
  let v5381 : BitVec 32 := Scalar.addi c0_i32_5456 v5380
  v5381.toNat
def k0_dev203 (d0 : Dev nD) : Nat :=
  let c0_i32_5499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5498 : BitVec 32 := 1#32
  let v5420 : BitVec 32 := Scalar.muli v24 c1_i32_5498
  let v5421 : BitVec 32 := Scalar.addi c0_i32_5499 v5420
  v5421.toNat
def k0_dev204 (d0 : Dev nD) : Nat :=
  let c0_i32_5515 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5514 : BitVec 32 := 1#32
  let v5436 : BitVec 32 := Scalar.muli v13 c1_i32_5514
  let v5437 : BitVec 32 := Scalar.addi c0_i32_5515 v5436
  v5437.toNat
def k0_dev205 (d0 : Dev nD) : Nat :=
  let c0_i32_5558 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5557 : BitVec 32 := 1#32
  let v5476 : BitVec 32 := Scalar.muli v13 c1_i32_5557
  let v5477 : BitVec 32 := Scalar.addi c0_i32_5558 v5476
  v5477.toNat
def k0_dev206 (d0 : Dev nD) : Nat :=
  let c0_i32_5574 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5573 : BitVec 32 := 1#32
  let v5492 : BitVec 32 := Scalar.muli v24 c1_i32_5573
  let v5493 : BitVec 32 := Scalar.addi c0_i32_5574 v5492
  v5493.toNat
def k0_dev207 (d0 : Dev nD) : Nat :=
  let c0_i32_5617 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5616 : BitVec 32 := 1#32
  let v5532 : BitVec 32 := Scalar.muli v24 c1_i32_5616
  let v5533 : BitVec 32 := Scalar.addi c0_i32_5617 v5532
  v5533.toNat
def k0_dev208 (d0 : Dev nD) : Nat :=
  let c0_i32_5633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5632 : BitVec 32 := 1#32
  let v5548 : BitVec 32 := Scalar.muli v13 c1_i32_5632
  let v5549 : BitVec 32 := Scalar.addi c0_i32_5633 v5548
  v5549.toNat
def k0_dev209 (d0 : Dev nD) : Nat :=
  let c0_i32_5676 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5675 : BitVec 32 := 1#32
  let v5588 : BitVec 32 := Scalar.muli v13 c1_i32_5675
  let v5589 : BitVec 32 := Scalar.addi c0_i32_5676 v5588
  v5589.toNat
def k0_dev210 (d0 : Dev nD) : Nat :=
  let c0_i32_5692 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5691 : BitVec 32 := 1#32
  let v5604 : BitVec 32 := Scalar.muli v24 c1_i32_5691
  let v5605 : BitVec 32 := Scalar.addi c0_i32_5692 v5604
  v5605.toNat
def k0_dev211 (d0 : Dev nD) : Nat :=
  let c0_i32_5735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5734 : BitVec 32 := 1#32
  let v5644 : BitVec 32 := Scalar.muli v24 c1_i32_5734
  let v5645 : BitVec 32 := Scalar.addi c0_i32_5735 v5644
  v5645.toNat
def k0_dev212 (d0 : Dev nD) : Nat :=
  let c0_i32_5751 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5750 : BitVec 32 := 1#32
  let v5660 : BitVec 32 := Scalar.muli v13 c1_i32_5750
  let v5661 : BitVec 32 := Scalar.addi c0_i32_5751 v5660
  v5661.toNat
def k0_dev213 (d0 : Dev nD) : Nat :=
  let c0_i32_5794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5793 : BitVec 32 := 1#32
  let v5700 : BitVec 32 := Scalar.muli v13 c1_i32_5793
  let v5701 : BitVec 32 := Scalar.addi c0_i32_5794 v5700
  v5701.toNat
def k0_dev214 (d0 : Dev nD) : Nat :=
  let c0_i32_5810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5809 : BitVec 32 := 1#32
  let v5716 : BitVec 32 := Scalar.muli v24 c1_i32_5809
  let v5717 : BitVec 32 := Scalar.addi c0_i32_5810 v5716
  v5717.toNat
def k0_dev215 (d0 : Dev nD) : Nat :=
  let c0_i32_5853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5852 : BitVec 32 := 1#32
  let v5756 : BitVec 32 := Scalar.muli v24 c1_i32_5852
  let v5757 : BitVec 32 := Scalar.addi c0_i32_5853 v5756
  v5757.toNat
def k0_dev216 (d0 : Dev nD) : Nat :=
  let c0_i32_5869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5868 : BitVec 32 := 1#32
  let v5772 : BitVec 32 := Scalar.muli v13 c1_i32_5868
  let v5773 : BitVec 32 := Scalar.addi c0_i32_5869 v5772
  v5773.toNat
def k0_dev217 (d0 : Dev nD) : Nat :=
  let c0_i32_5912 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5911 : BitVec 32 := 1#32
  let v5812 : BitVec 32 := Scalar.muli v13 c1_i32_5911
  let v5813 : BitVec 32 := Scalar.addi c0_i32_5912 v5812
  v5813.toNat
def k0_dev218 (d0 : Dev nD) : Nat :=
  let c0_i32_5928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5927 : BitVec 32 := 1#32
  let v5828 : BitVec 32 := Scalar.muli v24 c1_i32_5927
  let v5829 : BitVec 32 := Scalar.addi c0_i32_5928 v5828
  v5829.toNat
def k0_dev219 (d0 : Dev nD) : Nat :=
  let c0_i32_5971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_5970 : BitVec 32 := 1#32
  let v5868 : BitVec 32 := Scalar.muli v24 c1_i32_5970
  let v5869 : BitVec 32 := Scalar.addi c0_i32_5971 v5868
  v5869.toNat
def k0_dev220 (d0 : Dev nD) : Nat :=
  let c0_i32_5987 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_5986 : BitVec 32 := 1#32
  let v5884 : BitVec 32 := Scalar.muli v13 c1_i32_5986
  let v5885 : BitVec 32 := Scalar.addi c0_i32_5987 v5884
  v5885.toNat
def k0_dev221 (d0 : Dev nD) : Nat :=
  let c0_i32_6030 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6029 : BitVec 32 := 1#32
  let v5924 : BitVec 32 := Scalar.muli v13 c1_i32_6029
  let v5925 : BitVec 32 := Scalar.addi c0_i32_6030 v5924
  v5925.toNat
def k0_dev222 (d0 : Dev nD) : Nat :=
  let c0_i32_6046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6045 : BitVec 32 := 1#32
  let v5940 : BitVec 32 := Scalar.muli v24 c1_i32_6045
  let v5941 : BitVec 32 := Scalar.addi c0_i32_6046 v5940
  v5941.toNat
def k0_dev223 (d0 : Dev nD) : Nat :=
  let c0_i32_6089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6088 : BitVec 32 := 1#32
  let v5980 : BitVec 32 := Scalar.muli v24 c1_i32_6088
  let v5981 : BitVec 32 := Scalar.addi c0_i32_6089 v5980
  v5981.toNat
def k0_dev224 (d0 : Dev nD) : Nat :=
  let c0_i32_6145 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6144 : BitVec 32 := 1#32
  let v6034 : BitVec 32 := Scalar.muli v13 c1_i32_6144
  let v6035 : BitVec 32 := Scalar.addi c0_i32_6145 v6034
  v6035.toNat
def k0_dev225 (d0 : Dev nD) : Nat :=
  let c0_i32_6201 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6200 : BitVec 32 := 1#32
  let v6088 : BitVec 32 := Scalar.muli v24 c1_i32_6200
  let v6089 : BitVec 32 := Scalar.addi c0_i32_6201 v6088
  v6089.toNat
def k0_dev226 (d0 : Dev nD) : Nat :=
  let c0_i32_6257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6256 : BitVec 32 := 1#32
  let v6142 : BitVec 32 := Scalar.muli v13 c1_i32_6256
  let v6143 : BitVec 32 := Scalar.addi c0_i32_6257 v6142
  v6143.toNat
def k0_dev227 (d0 : Dev nD) : Nat :=
  let c0_i32_6313 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6312 : BitVec 32 := 1#32
  let v6196 : BitVec 32 := Scalar.muli v24 c1_i32_6312
  let v6197 : BitVec 32 := Scalar.addi c0_i32_6313 v6196
  v6197.toNat
def k0_dev228 (d0 : Dev nD) : Nat :=
  let c0_i32_6369 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6368 : BitVec 32 := 1#32
  let v6250 : BitVec 32 := Scalar.muli v13 c1_i32_6368
  let v6251 : BitVec 32 := Scalar.addi c0_i32_6369 v6250
  v6251.toNat
def k0_dev229 (d0 : Dev nD) : Nat :=
  let c0_i32_6425 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_6424 : BitVec 32 := 1#32
  let v6304 : BitVec 32 := Scalar.muli v24 c1_i32_6424
  let v6305 : BitVec 32 := Scalar.addi c0_i32_6425 v6304
  v6305.toNat
def k0_dev230 (d0 : Dev nD) : Nat :=
  let c0_i32_6481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_6480 : BitVec 32 := 1#32
  let v6358 : BitVec 32 := Scalar.muli v13 c1_i32_6480
  let v6359 : BitVec 32 := Scalar.addi c0_i32_6481 v6358
  v6359.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S_, .f32⟩
  | .hbm, ⟨6, _⟩ => ⟨S4096x8192, .f32⟩
  | .hbm, ⟨7, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Rings.Program.lean ====
/-
  The kernel's body written once for a ring: the four rings of the kernel run the same operations on their own buffers
  and semaphores, so the body is 30 steps of one text, and `body_eq` says the printed body is that text unrolled.
-/
module

public import proofs.«01_k».proof.Proof.Gen.KernelIdeal.Skeleton
public import proofs.«01_k».proof.Proof.Gen.KernelIdeal.Points
public import Idealize.ShloMosaic.Lib.Pipeline.Regions

@[expose] public section

noncomputable section

namespace Cert.KernelIdeal.Rings

open Idealize.ShloMosaic Idealize.ShloMosaic.TcCoe
open Idealize.SL Idealize.SL.Sem
open Cert.KernelIdeal.Gen

variable {F : FTy → Type} [FloatOps F]

/-! ## One ring's buffers and semaphores -/

/-- Ring `q`'s four-slot buffer. -/
def comm : Fin 4 → Memref sig .tc .vmem S4x256x2048 .bf16
  | 0 => Memref.whole cc0_scratch0
  | 1 => Memref.whole cc0_scratch1
  | 2 => Memref.whole cc0_scratch2
  | 3 => Memref.whole cc0_scratch3

theorem comm_whole : ∀ q, (comm q).IsWhole
  | 0 => Memref.isWhole_whole _
  | 1 => Memref.isWhole_whole _
  | 2 => Memref.isWhole_whole _
  | 3 => Memref.isWhole_whole _

/-- Ring `q`'s two-slot output staging buffer. -/
def stage : Fin 4 → Memref sig .tc .vmem S2x256x2048 .f32
  | 0 => Memref.whole cc0_scratch4
  | 1 => Memref.whole cc0_scratch5
  | 2 => Memref.whole cc0_scratch6
  | 3 => Memref.whole cc0_scratch7

/-- Ring `q`'s four send semaphores. -/
def sendA : Fin 4 → DmaSems sig S4
  | 0 => cc0_scratch8
  | 1 => cc0_scratch9
  | 2 => cc0_scratch10
  | 3 => cc0_scratch11

/-- Ring `q`'s four receive semaphores. -/
def recvA : Fin 4 → DmaSems sig S4
  | 0 => cc0_scratch12
  | 1 => cc0_scratch13
  | 2 => cc0_scratch14
  | 3 => cc0_scratch15

/-- Ring `q`'s credit semaphore. -/
def creditA : Fin 4 → Sems sig S_
  | 0 => cc0_scratch16
  | 1 => cc0_scratch17
  | 2 => cc0_scratch18
  | 3 => cc0_scratch19

/-- Ring `q`'s two output semaphores. -/
def outA : Fin 4 → DmaSems sig S2
  | 0 => cc0_scratch20
  | 1 => cc0_scratch21
  | 2 => cc0_scratch22
  | 3 => cc0_scratch23

/-- Whether ring `q` sends to the right-hand neighbour. -/
def fwd : Fin 4 → Bool
  | 0 => true
  | 1 => true
  | 2 => false
  | 3 => false

/-- The neighbour on the left, and on the right. -/
def left (d : Dev nD) : Dev nD := ⟨k0_dev1 d, k0_dev1_lt d⟩
def right (d : Dev nD) : Dev nD := ⟨k0_dev2 d, k0_dev2_lt d⟩

/-- The device ring `q` sends to, and the one it receives from. -/
def dst (q : Fin 4) (d : Dev nD) : Dev nD := bif fwd q then right d else left d
def ups (q : Fin 4) (d : Dev nD) : Dev nD := bif fwd q then left d else right d

/-- Slot number `u` modulo 4, and stage slot number `n` modulo 2. -/
def sl (u : ℕ) : Fin 4 := ⟨u % 4, Nat.mod_lt _ (by decide)⟩
def st (n : ℕ) : Fin 2 := ⟨n % 2, Nat.mod_lt _ (by decide)⟩

theorem slot_inb : ∀ (s : Fin 4) a, (![s.val, 0, 0] : Fin 3 → Nat) a + S1x256x2048.size a ≤ S4x256x2048.size a := by decide
theorem stage_inb : ∀ (s : Fin 2) a, (![s.val, 0, 0] : Fin 3 → Nat) a + S1x256x2048.size a ≤ S2x256x2048.size a := by decide
theorem sem_inb : ∀ (s : Fin 4) a, (![s.val] : Fin 1 → Nat) a + S1.size a ≤ S4.size a := by decide
theorem osem_inb : ∀ (s : Fin 2) a, (![s.val] : Fin 1 → Nat) a + S1.size a ≤ S2.size a := by decide
theorem w_inb : ∀ (q : Fin 4) a, (![0, 2048 * q.val] : Fin 2 → Nat) a + S256x2048.size a ≤ S256x8192.size a := by decide

/-- The rectangle of slot `s` in a ring's buffer, and of slot `s` in its staging buffer. -/
def slotR (s : Fin 4) : Rect S4x256x2048 := Rect.unit (s := S4x256x2048) ![s.val, 0, 0] S1x256x2048.size (slot_inb s)
def stageR (s : Fin 2) : Rect S2x256x2048 := Rect.unit (s := S2x256x2048) ![s.val, 0, 0] S1x256x2048.size (stage_inb s)

theorem slot_packed : ∀ s, (slotR s).PackedRows (EltTy.packing .bf16) := by decide
theorem slot_words : ∀ s, (slotR s).WholeWords (EltTy.packing .bf16) := by decide

/-- Slot `s` of ring `q` as a 256 × 2048 array, and staging slot `s` likewise. -/
def slotV (q : Fin 4) (s : Fin 4) : Memref sig .tc .vmem S256x2048 .bf16 :=
  ((comm q).slice (slotR s) (fun _ => rfl)).squeeze S256x2048 squeezes_S1x256x2048_S256x2048
def stageV (q : Fin 4) (s : Fin 2) : Memref sig .tc .vmem S256x2048 .f32 :=
  ((stage q).slice (stageR s) (fun _ => rfl)).squeeze S256x2048 squeezes_S1x256x2048_S256x2048

theorem slot_exact (q s : Fin 4) : (slotV q s).view.WordExact :=
  ((comm_whole q).wordExact_slice rfl _ (slot_words s)).reshape _ _
theorem stage_exact (q : Fin 4) (s : Fin 2) : (stageV q s).view.WordExact := (View.wordExact_bits rfl).reshape _ _

/-- Semaphore `s` of each array. -/
def ssem (q s : Fin 4) : DmaSem sig :=
  (((sendA q).slice (Rect.unit (s := S4) ![s.val] S1.size (sem_inb s))).squeeze S_ squeezes_S1_S_).sem
def rsem (q s : Fin 4) : DmaSem sig :=
  (((recvA q).slice (Rect.unit (s := S4) ![s.val] S1.size (sem_inb s))).squeeze S_ squeezes_S1_S_).sem
def osem (q : Fin 4) (s : Fin 2) : DmaSem sig :=
  (((outA q).slice (Rect.unit (s := S2) ![s.val] S1.size (osem_inb s))).squeeze S_ squeezes_S1_S_).sem
def csem (q : Fin 4) : Sem sig := (creditA q).sem
def bsem : Sem sig := (SemArray.scalar (sig.barrier 0 rfl) : Sems sig S_).sem

/-! ## Offsets -/

/-- The word by which the row block of the step's own product is counted back from the device. -/
def xWord (q : Fin 4) (u : ℕ) : BitVec 32 := bif fwd q then BitVec.ofNat 32 (u + 1) else BitVec.ofNat 32 (4294967296 - (u + 1))

theorem x_inb : ∀ (q : Fin 4) (u : Fin 15) (d : Dev nD) a,
    k0_off2 d (xWord q u.val) a + S256x256.size a ≤ S4096x256.size a := by decide +kernel

/-- The word by which the output block of store `t + 1` is counted back from the device. -/
def oWord (q : Fin 4) (t : ℕ) : BitVec 32 :=
  bif fwd q then BitVec.ofNat 32 t else match t with
    | 0 => 0#32
    | t + 1 => BitVec.ofNat 32 (4294967296 - (t + 1))

/-- The offsets in the result of ring `q`'s store number `n`. -/
def oOff (q : Fin 4) (n : ℕ) (d : Dev nD) : Fin 2 → ℕ :=
  match n with
  | 0 => (match q with
    | 0 => k0_off3 d
    | 1 => k0_off5 d
    | 2 => k0_off4 d
    | 3 => k0_off6 d)
  | t + 1 => (match q with
    | 0 => k0_off7 d (oWord 0 t)
    | 1 => k0_off9 d (oWord 1 t)
    | 2 => k0_off8 d (oWord 2 t)
    | 3 => k0_off10 d (oWord 3 t))

theorem o_inb : ∀ (q : Fin 4) (n : Fin 16) (d : Dev nD) a,
    oOff q n.val d a + S256x2048.size a ≤ S4096x8192.size a := by decide +kernel

/-- The piece of the result that ring `q`'s store number `n` fills. -/
def outV (q : Fin 4) (n : Fin 16) (d : Dev nD) : Memref sig .tc .hbm S256x2048 .f32 :=
  (Memref.whole main_v1).slice (Rect.unit (s := S4096x8192) (oOff q n.val d) S256x2048.size (o_inb q n d)) (fun _ => rfl)

/-! ## The values -/

/-- The product of a block of rows of `x` and a block of columns of `w`, rounded. -/
def prodV (x : Vec F S256x256 .bf16) (w : Vec F S256x2048 .bf16) : FVec F S256x2048 .bf16 :=
  truncf .bf16 (matmul dot_S256x256_S256x2048_S256x2048_1_0_0_1_n_n none (shapeCast S256x256 x shapeCasts_S256x256_S256x256)
    (shapeCast S256x2048 w shapeCasts_S256x2048_S256x2048) (constant S256x2048 .f32 0x00000000#32)) bitsLt_bf16_f32

/-- No product yet. -/
def noneV : FVec F S256x2048 .bf16 := truncf .bf16 (constant S256x2048 .f32 0x00000000#32) bitsLt_bf16_f32

/-- What a slot receives on the way round: what arrived plus the device's own product. -/
def addV (a : Vec F S256x2048 .bf16) (p : FVec F S256x2048 .bf16) : FVec F S256x2048 .bf16 := addf a p

/-- What is put out: the widened sum, cut off below at zero. -/
def reluV (a : Vec F S256x2048 .bf16) : FVec F S256x2048 .f32 :=
  maximumf (extf .f32 a bitsLt_bf16_f32) (broadcast S256x2048 (Scalar.ofBits .f32 0x00000000#32))

/-- A 256 × 2048 array as one slot, and back. -/
def up {e : EltTy} (a : Vec F S256x2048 e) : Vec F S1x256x2048 e := shapeCast S1x256x2048 a shapeCasts_S256x2048_S1x256x2048
def down {e : EltTy} (a : Vec F S1x256x2048 e) : Vec F S256x2048 e := shapeCast S256x2048 a shapeCasts_S1x256x2048_S256x2048

/-! ## The program -/

abbrev Pr (F : FTy → Type) [FloatOps F] := Prog (TpuEff nD τ sig (Elt F) Λ₀ .tc) PUnit

section Prg

variable (arg0 : Memref sig .tc .vmem S4096x256 .bf16) (arg1 : Memref sig .tc .vmem S256x8192 .bf16) (d : Dev nD)

/-- Load a block of `x` at the offsets `off` and ring `q`'s columns of `w`, and go on with their product. -/
def loadProd (q : Fin 4) (off : Fin 2 → ℕ) (h : ∀ a, off a + S256x256.size a ≤ S4096x256.size a)
    (k : FVec F S256x2048 .bf16 → Pr F) : Pr F :=
  .op (.load arg0 (Rect.unit (s := S4096x256) off S256x256.size h).toLoadRect (View.loadsAt_vmem h_S256x256)) fun x =>
  .op (.load arg1 (Rect.unit (s := S256x8192) ![0, 2048 * q.val] S256x2048.size (w_inb q)).toLoadRect
    (View.loadsAt_vmem h_S256x2048)) fun w => k (prodV x w)

/-- Load slot `s` of ring `q`. -/
def loadSlot (q s : Fin 4) (k : Vec F S1x256x2048 .bf16 → Pr F) : Pr F :=
  .op (.load (comm q) (slotR s).toLoadRect (View.loadsAt_vmem h_S1x256x2048)) k

/-- Store into slot `s` of ring `q`. -/
def storeSlot (q s : Fin 4) (v : FVec F S256x2048 .bf16) (k : Pr F) : Pr F :=
  .op (.store (comm q) (slotR s) (up v) Finset.univ
    (View.stores_vmem h_S1x256x2048 ((comm_whole q).storeExact_slice rfl _ (slot_packed s)) (fun _ => rfl)) (.inl rfl)) fun _ => k

/-- The device's own block, into slot 0. -/
def initR (q : Fin 4) (k : Pr F) : Pr F :=
  loadProd arg0 arg1 q (k0_off1 d) (k0_off1_inb d) fun p => loadSlot q 0 fun _ => storeSlot q 0 p k

/-- Wait until output copy number `n` of ring `q` is done. -/
def waitOut (q : Fin 4) (n : Fin 16) (k : Pr F) : Pr F :=
  .op (.waitDma2 (osem q (st n.val)) (stageV q (st n.val)) (outV q n d) (stage_exact q _) (View.wordExact_bits rfl)) fun _ => k

/-- Put out slot `s` as the output block number `n`, through staging slot `n` modulo 2. -/
def reluStore (q s : Fin 4) (n : Fin 16) (k : Pr F) : Pr F :=
  let go : Pr F :=
    loadSlot q s fun a =>
    .op (.load (stage q) (stageR (st n.val)).toLoadRect (View.loadsAt_vmem h_S1x256x2048)) fun _ =>
    .op (.store (stage q) (stageR (st n.val)) (up (reluV (down a))) Finset.univ
      (View.stores_vmem_bits_univ h_S1x256x2048 rfl) (.inl rfl)) fun _ =>
    .op (.enqueueDma (stageV q (st n.val)) (.here (outV q n d)) (.dma (osem q (st n.val)))
      (stage_exact q _) (View.wordExact_bits rfl) ⟨Or.inl rfl, trivial⟩) fun _ => k
  if 2 ≤ n.val then waitOut d q (n - 2) go else go

/-- Take in what launch `v` of the left (or right) neighbour brings into slot `v + 1`: on the first 15 steps add the
    device's own product to it, later put it out. -/
def finishR (q : Fin 4) (v : ℕ) (p : FVec F S256x2048 .bf16) (k : Pr F) : Pr F :=
  .op (.waitDma2 (rsem q (sl (v + 1))) (slotV q (sl v)) (slotV q (sl (v + 1))) (slot_exact q _) (slot_exact q _)) fun _ =>
  if v < 15 then
    loadSlot q (sl (v + 1)) fun a => loadSlot q (sl (v + 1)) fun _ => storeSlot q (sl (v + 1)) (addV (down a) p) k
  else if h : v < 30 then reluStore d q (sl (v + 1)) ⟨v - 14, by omega⟩ k
  else k

/-- Send slot `u` on to the next device's slot `u + 1`. -/
def sendR (q : Fin 4) (u : ℕ) (k : Pr F) : Pr F :=
  .op (.enqueueDma (slotV q (sl u)) (.remote (Dev.tc (dst q d)) (slotV q (sl (u + 1))) (.dma (ssem q (sl u)))) (.dma (rsem q (sl (u + 1))))
    (slot_exact q _) (slot_exact q _) ⟨⟨rfl, Or.inl rfl⟩, trivial⟩) fun _ => k

/-- Wait until launch `v` has left the device. -/
def waitSend (q : Fin 4) (v : ℕ) (k : Pr F) : Pr F :=
  .op (.waitDma2 (ssem q (sl v)) (slotV q (sl (v + 1))) (slotV q (sl v)) (slot_exact q _) (slot_exact q _)) fun _ => k

/-- Step `u`'s launch: wait for the credit, send, do the step's own work, and give the previous slot back. -/
def launchR (q : Fin 4) (u : ℕ) (p : FVec F S256x2048 .bf16) (k : FVec F S256x2048 .bf16 → Pr F) : Pr F :=
  let release (p' : FVec F S256x2048 .bf16) : Pr F :=
    if 1 ≤ u then
      waitSend q (u - 1) (if u ≤ 27 then .op (.semSignal (Dev.tc (ups q d)) (csem q) ((1 : ℕ) : ℤ)) fun _ => k p' else k p')
    else k p'
  let go : Pr F :=
    sendR d q u (
      if h : u < 15 then loadProd arg0 arg1 q (k0_off2 d (xWord q u)) (x_inb q ⟨u, h⟩ d) release
      else if u = 15 then reluStore d q (sl u) 0 (release p)
      else release p)
  if 3 ≤ u then .op (.semWait (csem q) ((1 : ℕ) : ℤ)) fun _ => go else go

/-- One ring's part of step `u`. -/
def ringR (q : Fin 4) (u : ℕ) (p : FVec F S256x2048 .bf16) (k : FVec F S256x2048 .bf16 → Pr F) : Pr F :=
  if 1 ≤ u then finishR d q (u - 1) p (launchR arg0 arg1 d q u p k) else launchR arg0 arg1 d q u p k

/-- Two opposite rings' part of step `u`: `q` and then `q'`. -/
def pairR (q q' : Fin 4) (u : ℕ) (p : FVec F S256x2048 .bf16 × FVec F S256x2048 .bf16)
    (k : FVec F S256x2048 .bf16 × FVec F S256x2048 .bf16 → Pr F) : Pr F :=
  ringR arg0 arg1 d q u p.1 fun a => ringR arg0 arg1 d q' u p.2 fun b => k (a, b)

/-- `n` steps from step `u` on. -/
def stepsR : ℕ → ℕ → (FVec F S256x2048 .bf16 × FVec F S256x2048 .bf16) → (FVec F S256x2048 .bf16 × FVec F S256x2048 .bf16) →
    (FVec F S256x2048 .bf16 × FVec F S256x2048 .bf16 → FVec F S256x2048 .bf16 × FVec F S256x2048 .bf16 → Pr F) → Pr F
  | 0, _, a, b, k => k a b
  | n + 1, u, a, b, k => pairR arg0 arg1 d 0 2 u a fun a' => pairR arg0 arg1 d 1 3 u b fun b' => stepsR n (u + 1) a' b' k

/-- What is left in flight at the end of ring `q`. -/
def lastR (q : Fin 4) (k : Pr F) : Pr F := waitSend q 29 (waitOut d q 14 (waitOut d q 15 k))

end Prg

/-- The whole body. -/
def bodyR (arg0 : Memref sig .tc .vmem S4096x256 .bf16) (arg1 : Memref sig .tc .vmem S256x8192 .bf16) : Pr F :=
  .op .deviceId fun d =>
  .op (.semSignal (Dev.tc (left d)) bsem ((1 : ℕ) : ℤ)) fun _ =>
  .op (.semSignal (Dev.tc (right d)) bsem ((1 : ℕ) : ℤ)) fun _ =>
  .op (.semWait bsem ((2 : ℕ) : ℤ)) fun _ =>
  initR arg0 arg1 d 0 <| initR arg0 arg1 d 1 <| initR arg0 arg1 d 2 <| initR arg0 arg1 d 3 <|
  stepsR arg0 arg1 d 30 0 (noneV, noneV) (noneV, noneV) fun a b =>
  finishR d 0 29 a.1 <| finishR d 2 29 a.2 <| finishR d 1 29 b.1 <| finishR d 3 29 b.2 <|
  lastR d 0 <| lastR d 1 <| lastR d 2 <| lastR d 3 <| .ret ⟨⟩

end Cert.KernelIdeal.Rings
-- ==== Proof.Rings.Protocol.lean ====
/-
  The protocol of the four rings, as rounds of duties over the kernel's semaphores: what every arrival, departure,
  credit and output copy hands to the owner of its semaphore, and the values the slots go round with.
-/
module

public import proofs.«01_k».proof.Proof.Rings.Program
public import proofs.«01_k».proof.Proof.Gen.KernelIdeal.Launch
public import Idealize.ShloMosaic.Lib.Pipeline.Launch
public import Idealize.ShloMosaic.Lib.Pipeline.Kit
public import Idealize.ShloMosaic.Lib.Memref
public import Idealize.ShloMosaic.Lib.Tactic

@[expose] public section

set_option backward.proofsInPublic true

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra: the pipeline's own part and the rings' rounds, duties numbered -/

abbrev UB : Type := URounds (GSem nD τ sig) ℕ
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The devices -/

theorem left_right (c : Dev nD) : left (right c) = c := by revert c; decide +kernel
theorem right_left (c : Dev nD) : right (left c) = c := by revert c; decide +kernel
theorem ups_dst (q : Fin 4) (c : Dev nD) : ups q (dst q c) = c := by
  unfold ups dst; cases fwd q
  · exact right_left c
  · exact left_right c
theorem dst_ups (q : Fin 4) (c : Dev nD) : dst q (ups q c) = c := by
  unfold ups dst; cases fwd q
  · exact left_right c
  · exact right_left c

/-- The ring paired with ring `q`, running the other way. -/
def opp : Fin 4 → Fin 4
  | 0 => 2
  | 1 => 3
  | 2 => 0
  | 3 => 1

theorem ups_opp (q : Fin 4) (c : Dev nD) : ups (opp q) c = dst q c := by revert q; decide +revert +kernel
theorem dst_opp (q : Fin 4) (c : Dev nD) : dst (opp q) c = ups q c := by revert q; decide +revert +kernel
theorem opp_opp (q : Fin 4) : opp (opp q) = q := by revert q; decide

/-! ## The semaphores as cells -/

/-- The kinds of semaphore a ring has. -/
inductive RK
  | recv (s : Fin 4)
  | send (s : Fin 4)
  | credit
  | out (t : Fin 2)
  deriving DecidableEq

def rkList : List RK :=
  [.recv 0, .recv 1, .recv 2, .recv 3, .send 0, .send 1, .send 2, .send 3, .credit, .out 0, .out 1]

instance : Fintype RK where
  elems := ⟨rkList, by decide⟩
  complete := by
    rintro (s | s | _ | t)
    · revert s; decide
    · revert s; decide
    · decide
    · revert t; decide

/-- A device's semaphores: the barrier's (`none`) and the rings'. -/
abbrev Cell : Type := Option (Fin 4 × RK)

def semOf : Cell → SemLoc sig
  | none => .reg bsem
  | some (q, .recv s) => .dma (rsem q s)
  | some (q, .send s) => .dma (ssem q s)
  | some (q, .credit) => .reg (csem q)
  | some (q, .out t) => .dma (osem q t)

theorem semOf_injective : Function.Injective semOf := by
  have h : ∀ a b : Cell, semOf a = semOf b → a = b := by decide +kernel
  exact fun a b => h a b

abbrev cell (c : Dev nD) (k : Cell) : GSem nD τ sig := ((c : Thread nD τ), semOf k)
abbrev bcell (c : Dev nD) : GSem nD τ sig := ((c : Thread nD τ), .reg bsem)
abbrev rcell (q s : Fin 4) (c : Dev nD) : GSem nD τ sig := ((c : Thread nD τ), .dma (rsem q s))
abbrev scell (q s : Fin 4) (c : Dev nD) : GSem nD τ sig := ((c : Thread nD τ), .dma (ssem q s))
abbrev ccell (q : Fin 4) (c : Dev nD) : GSem nD τ sig := ((c : Thread nD τ), .reg (csem q))
abbrev ocell (q : Fin 4) (t : Fin 2) (c : Dev nD) : GSem nD τ sig := ((c : Thread nD τ), .dma (osem q t))

open Classical in
/-- Which of its device's semaphores a cell is. -/
def kind (g : GSem nD τ sig) : Option Cell := if h : ∃ k, g.1.2 = .tc ∧ semOf k = g.2 then some h.choose else none

theorem kind_cell (c : Dev nD) (k : Cell) : kind (cell c k) = some k := by
  have h : ∃ k', (cell c k).1.2 = .tc ∧ semOf k' = (cell c k).2 := ⟨k, rfl, rfl⟩
  unfold kind
  rw [dif_pos h]
  exact congrArg some (semOf_injective h.choose_spec.2)

/-! ## Sizes -/

/-- The units of a slot's transfer, and of an output copy. -/
def NS : ℕ := (slotV 0 0).view.dmaCredit
def NO : ℕ := (outV 0 0 0).view.dmaCredit
theorem NS_pos : 0 < NS := View.dmaCredit_pos _ (by decide)
theorem NO_pos : 0 < NO := View.dmaCredit_pos _ (by decide)
theorem credit_slot (q s : Fin 4) : (slotV q s).view.dmaCredit = NS := by
  fin_cases q <;> rfl
theorem credit_out (q : Fin 4) (n : Fin 16) (c : Dev nD) : (outV q n c).view.dmaCredit = NO := rfl

/-! ## The values -/

abbrev xM : Memref sig .tc .vmem S4096x256 .bf16 := Memref.whole cc0_stg0_0
abbrev wM : Memref sig .tc .vmem S256x8192 .bf16 := Memref.whole cc0_stg1_0

section Values

variable (X : Dev nD → (cc0_stg0_0 : Ref sig .tc).ty.Contents (Elt F)) (Wt : Dev nD → (cc0_stg1_0 : Ref sig .tc).ty.Contents (Elt F))

/-- The product device `c` makes of its rows at the offsets `off` and ring `q`'s columns. -/
def prodAt (q : Fin 4) (c : Dev nD) (off : Fin 2 → ℕ) (h : ∀ a, off a + S256x256.size a ≤ S4096x256.size a) : FVec F S256x2048 .bf16 :=
  prodV (xM.view.readAt (Elt F) (Rect.unit (s := S4096x256) off S256x256.size h).toLoadRect (X c))
    (wM.view.readAt (Elt F) (Rect.unit (s := S256x8192) ![0, 2048 * q.val] S256x2048.size (w_inb q)).toLoadRect (Wt c))

/-- The product device `c` makes in step `u`, to be added to what launch `u` brings it. -/
def ownProd (q : Fin 4) (u : ℕ) (c : Dev nD) : FVec F S256x2048 .bf16 :=
  if h : u < 15 then prodAt X Wt q c (k0_off2 c (xWord q u)) (x_inb q ⟨u, h⟩ c) else noneV

/-- What slot `u` (modulo 4) of device `c` holds when launch `u` sends it: its own first product, then what launch
    `u - 1` of the device before it brought, with the device's own product added in the first 15 steps. -/
def acc (q : Fin 4) : ℕ → Dev nD → FVec F S256x2048 .bf16
  | 0, c => prodAt X Wt q c (k0_off1 c) (k0_off1_inb c)
  | v + 1, c => if v < 15 then addV (acc q v (ups q c)) (ownProd X Wt q v c) else acc q v (ups q c)

/-- What store `n` puts out. -/
def outVal (q : Fin 4) (n : ℕ) (c : Dev nD) : FVec F S256x2048 .f32 := reluV (acc X Wt q (15 + n) c)

end Values

/-! ## Holdings -/

/-- Store number `n` as an index of the sixteen. -/
def on (n : ℕ) : Fin 16 := ⟨n % 16, Nat.mod_lt _ (by decide)⟩

/-- Slot `s` of ring `q` on device `c`, at share `p`, holding `a`. -/
def slotO (q s : Fin 4) (c : Dev nD) (p : PosShare TreeShare) (a : FVec F S256x2048 .bf16) : sProp 𝕄 := owns (c : Thread nD τ) (slotV q s) p a
/-- Staging slot `t` of ring `q` on device `c`, holding anything. -/
def stageO (q : Fin 4) (t : Fin 2) (c : Dev nD) : sProp 𝕄 := iprop(∃ a, owns (c : Thread nD τ) (stageV q t) fullShare a)
/-- The piece of the result that store `n` of ring `q` on device `c` fills, holding `a`. -/
def outO (q : Fin 4) (n : ℕ) (c : Dev nD) (a : FVec F S256x2048 .f32) : sProp 𝕄 := owns (c : Thread nD τ) (outV q (on n) c) fullShare a

/-- Device `c`'s leave to launch `v` of ring `q` into it: the slot the launch fills, and that the slot's receive
    semaphore has come to the launch's round. -/
def leave (q : Fin 4) (v : ℕ) (c : Dev nD) : sProp 𝕄 :=
  iprop((∃ a, slotO q (sl (v + 1)) c fullShare a) ∗ reached ER (rcell q (sl (v + 1)) c) (v / 4))
/-- The same, for the launches there are. -/
def perm (q : Fin 4) (v : ℕ) (c : Dev nD) : sProp 𝕄 := if v < 30 then leave q v c else iprop(emp)
/-- Leave for the first three launches of ring `q`. -/
def perm3 (q : Fin 4) (c : Dev nD) : sProp 𝕄 := iprop(leave q 0 c ∗ leave q 1 c ∗ leave q 2 c)

/-- What launch `v` of ring `q` brings device `c` besides its contents: leave for a later launch of the paired ring
    into the device it comes from. -/
def extra (q : Fin 4) (v : ℕ) (c : Dev nD) : sProp 𝕄 :=
  if fwd q then (if 2 ≤ v then perm (opp q) (v + 1) (ups q c) else iprop(emp))
  else (if 1 ≤ v then perm (opp q) (v + 2) (ups q c) else iprop(emp))

section Sched

variable (X : Dev nD → (cc0_stg0_0 : Ref sig .tc).ty.Contents (Elt F)) (Wt : Dev nD → (cc0_stg1_0 : Ref sig .tc).ty.Contents (Elt F))

/-- What arrives with launch `v` of ring `q` at device `c`. -/
def recvPay (q : Fin 4) (v : ℕ) (c : Dev nD) : sProp 𝕄 :=
  iprop(slotO q (sl (v + 1)) c fullShare (acc X Wt q v (ups q c)) ∗ extra q v c)
/-- What comes back when launch `v` has left: the lent half of its source. -/
def sendPay (q : Fin 4) (v : ℕ) (c : Dev nD) : sProp 𝕄 := slotO q (sl v) c fullShare.left (acc X Wt q v c)
/-- What comes back when output copy `n` is done: its piece of the result, and the staging slot. -/
def outPay (q : Fin 4) (n : ℕ) (c : Dev nD) : sProp 𝕄 := iprop(outO q n c (outVal X Wt q n c) ∗ stageO q (st n) c)

/-- The launch that round `r` of receive semaphore `s` stands for. -/
def lrecv (s : Fin 4) (r : ℕ) : ℕ := 4 * r + (s.val + 3) % 4

def kDuties : Cell → ℕ → Finset ℕ
  | none, r => if r = 0 then {0, 1} else ∅
  | some (_, .recv s), r => if lrecv s r < 30 then {0} else ∅
  | some (_, .send s), r => if 4 * r + s.val < 30 then {0} else ∅
  | some (_, .credit), r => if r = 0 then Finset.range 27 else ∅
  | some (_, .out t), r => if 2 * r + t.val < 16 then {0} else ∅

def kAmount : Cell → ℕ
  | none => 1
  | some (_, .recv _) => NS
  | some (_, .send _) => NS
  | some (_, .credit) => 1
  | some (_, .out _) => NO

theorem kAmount_pos : ∀ k, 0 < kAmount k
  | none => Nat.one_pos
  | some (_, .recv _) => NS_pos
  | some (_, .send _) => NS_pos
  | some (_, .credit) => Nat.one_pos
  | some (_, .out _) => NO_pos

def kPayload (c : Dev nD) : Cell → ℕ → ℕ → sProp 𝕄
  | none, _, d => if d = 0 then iprop(perm3 2 (left c) ∗ perm3 3 (left c)) else iprop(perm3 0 (right c) ∗ perm3 1 (right c))
  | some (q, .recv s), r, _ => recvPay X Wt q (lrecv s r) c
  | some (q, .send s), r, _ => sendPay X Wt q (4 * r + s.val) c
  | some (_, .credit), _, _ => iprop(emp)
  | some (q, .out t), r, _ => outPay X Wt q (2 * r + t.val) c

/-- The rounds of every semaphore. -/
def Rd : Rounds.Schedule (GSem nD τ sig) ℕ 𝕄 where
  duties g r := match kind g with
    | none => ∅
    | some k => kDuties k r
  amount g _ _ := match kind g with
    | none => 1
    | some k => kAmount k
  payload g r d := match kind g with
    | none => iprop(emp)
    | some k => kPayload X Wt g.1.1 k r d
  amount_pos g r d _ := by
    cases h : kind g with
    | none => exact Nat.one_pos
    | some k => exact kAmount_pos k

theorem duties_cell (c : Dev nD) (k : Cell) (r : ℕ) : (Rd X Wt).duties (cell c k) r = kDuties k r := by
  show (match kind (cell c k) with | none => ∅ | some k => kDuties k r) = _
  rw [kind_cell]
theorem amount_cell (c : Dev nD) (k : Cell) (r d : ℕ) : (Rd X Wt).amount (cell c k) r d = kAmount k := by
  show (match kind (cell c k) with | none => 1 | some k => kAmount k) = _
  rw [kind_cell]
theorem payload_cell (c : Dev nD) (k : Cell) (r d : ℕ) : (Rd X Wt).payload (cell c k) r d = kPayload X Wt c k r d := by
  show (match kind (cell c k) with | none => iprop(emp) | some k => kPayload X Wt c k r d) = _
  rw [kind_cell]

instance slotO_storable (q s : Fin 4) (c : Dev nD) (p : PosShare TreeShare) (a : FVec F S256x2048 .bf16) :
    BI.Storable (upEmb : UEmb _ 𝕄) (slotO q s c p a) := by unfold slotO; infer_instance
instance leave_storable (q : Fin 4) (v : ℕ) (c : Dev nD) : BI.Storable (upEmb : UEmb _ 𝕄) (leave (F := F) q v c) := by
  unfold leave; infer_instance
instance perm_storable (q : Fin 4) (v : ℕ) (c : Dev nD) : BI.Storable (upEmb : UEmb _ 𝕄) (perm (F := F) q v c) := by
  unfold perm; split <;> infer_instance
instance perm3_storable (q : Fin 4) (c : Dev nD) : BI.Storable (upEmb : UEmb _ 𝕄) (perm3 (F := F) q c) := by
  unfold perm3; infer_instance
instance extra_storable (q : Fin 4) (v : ℕ) (c : Dev nD) : BI.Storable (upEmb : UEmb _ 𝕄) (extra (F := F) q v c) := by
  unfold extra; (repeat' split) <;> infer_instance

instance kPayload_storable (c : Dev nD) (k : Cell) (r d : ℕ) : BI.Storable (upEmb : UEmb _ 𝕄) (kPayload X Wt c k r d) := by
  rcases k with _ | ⟨q, _ | _ | _ | _⟩ <;> dsimp only [kPayload]
  · split <;> infer_instance
  · unfold recvPay; infer_instance
  · unfold sendPay; infer_instance
  · infer_instance
  · unfold outPay outO stageO; infer_instance

instance payload_storable (g : GSem nD τ sig) (r d : ℕ) : BI.Storable (upEmb : UEmb _ 𝕄) ((Rd X Wt).payload g r d) := by
  show BI.Storable upEmb (match kind g with | none => iprop(emp) | some k => kPayload X Wt g.1.1 k r d)
  cases kind g with
  | none => infer_instance
  | some k => show BI.Storable upEmb (kPayload X Wt g.1.1 k r d); infer_instance

end Sched

end Cert.KernelIdeal.Rings
-- ==== Proof.Rings.Ops.lean ====
/-
  The rings' operations, one rule each: what a wait, a launch, a credit, a load and a store take and give back, in the
  terms of the protocol.
-/
module

public import proofs.«01_k».proof.Proof.Rings.Protocol
public import Idealize.ShloMosaic.Lib.Pipeline.Value

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

abbrev 𝒱₀ : Variants := Variants.none

/-! ## Levels, and what is owed -/

/-- A unit's index is its level: what is signalled later in the run has a higher one. -/
def L (g : GSem nD τ sig) : Finset ℕ := if g.1.2 = .tc then Finset.range 40 else ∅
def lv (_ : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 40 := if_pos rfl

/-- Everything owed is owed above level `n`. -/
def High (n : ℕ) (O : CellTallies nD τ sig ℕ) : Prop := ∀ g i, 0 < O g i → i ∈ L g ∧ n < i

theorem High.mono {m n : ℕ} {O : CellTallies nD τ sig ℕ} (h : High n O) (hmn : m ≤ n) : High m O :=
  fun g i hg => ⟨(h g i hg).1, hmn.trans_lt (h g i hg).2⟩
theorem high_zero (n : ℕ) : High n 0 := fun g i h => absurd h (Nat.lt_irrefl 0)
theorem High.add {n : ℕ} {O O' : CellTallies nD τ sig ℕ} (h : High n O) (h' : High n O') : High n (O + O') := fun g i hg => by
  rw [Pi.add_apply, Finsupp.add_apply] at hg
  rcases Nat.eq_zero_or_pos (O g i) with h0 | h0
  · exact h' g i (by omega)
  · exact h g i h0
theorem high_tallyAt {n : ℕ} (c : Dev nD) (sm : SemLoc sig) {i k : ℕ} (hi : n < i) (hi' : i < 40) :
    High n (tallyAt ((c : Thread nD τ), sm) i k) := fun g j hg => by
  obtain ⟨rfl, rfl⟩ := Pipeline.tallyAt_pos hg
  exact ⟨by rw [L_tc]; exact Finset.mem_range.mpr hi', hi⟩
theorem high_sum {n : ℕ} {s : Finset ℕ} {T : ℕ → CellTallies nD τ sig ℕ} (h : ∀ v ∈ s, High n (T v)) : High n (∑ v ∈ s, T v) := by
  classical
  induction s using Finset.induction_on with
  | empty => rw [Finset.sum_empty]; exact high_zero n
  | insert a s ha ih =>
    rw [Finset.sum_insert ha]
    exact (h a (Finset.mem_insert_self _ _)).add (ih fun v hv => h v (Finset.mem_insert_of_mem hv))

theorem mayWait {n i : ℕ} {O : CellTallies nD τ sig ℕ} (h : High n O) (hi : i ≤ n) (hi' : i < 40) (c : Dev nD) (sm : SemLoc sig) :
    (levAts L lv : sProp 𝕄) ⊢ MayWait (c : Thread nD τ) sm i O :=
  MayOwe.of_cut (L := L) (lev := lv) n
    (fun p hp => by rw [Finset.mem_singleton.mp hp, L_tc]; exact Finset.mem_range.mpr hi')
    (fun g j hg => (h g j hg).1)
    (fun p hp => by rw [Finset.mem_singleton.mp hp]; exact hi)
    (fun g j hg => (h g j hg).2)

/-- What launch `v` of ring `q` pays the device it goes to, and the credit that follows it. -/
def dueR (q : Fin 4) (c : Dev nD) (v : ℕ) : CellTallies nD τ sig ℕ := tallyAt (rcell q (sl (v + 1)) (dst q c)) (v + 2) NS
def dueC (q : Fin 4) (c : Dev nD) (v : ℕ) : CellTallies nD τ sig ℕ :=
  if 1 ≤ v ∧ v ≤ 27 then tallyAt (ccell q (ups q c)) (v + 2) 1 else 0
/-- What device `c` owes for ring `q` from step `u` on. -/
def owedR (q : Fin 4) (c : Dev nD) (u : ℕ) : CellTallies nD τ sig ℕ := ∑ v ∈ Finset.Ico u 30, (dueC q c v + dueR q c v)

theorem owedR_peel (q : Fin 4) (c : Dev nD) {u : ℕ} (hu : u < 30) : owedR q c u = owedR q c (u + 1) + dueC q c u + dueR q c u := by
  unfold owedR;
  rw [show Finset.Ico u 30 = insert u (Finset.Ico (u + 1) 30) by ext x; simp only [Finset.mem_Ico, Finset.mem_insert]; omega,
    Finset.sum_insert (by rw [Finset.mem_Ico]; omega), add_comm, add_assoc]
theorem owedR_end (q : Fin 4) (c : Dev nD) : owedR q c 30 = 0 := by
  unfold owedR; rw [Finset.Ico_self, Finset.sum_empty]
theorem high_dueR (q : Fin 4) (c : Dev nD) {v n : ℕ} (hv : v < 30) (hn : n < v + 2) : High n (dueR q c v) :=
  high_tallyAt _ _ hn (by omega)
theorem high_dueC (q : Fin 4) (c : Dev nD) {v n : ℕ} (hv : v < 30) (hn : n < v + 2) : High n (dueC q c v) := by
  unfold dueC; split
  · exact high_tallyAt _ _ hn (by omega)
  · exact high_zero n
theorem high_owedR (q : Fin 4) (c : Dev nD) {u n : ℕ} (hn : n < u + 2) : High n (owedR q c u) :=
  high_sum fun v hv => by
    have := Finset.mem_Ico.mp hv
    exact (high_dueC q c this.2 (by omega)).add (high_dueR q c this.2 (by omega))

/-! ## A slot of a buffer -/

theorem up_down {e : EltTy} (a : Vec F S1x256x2048 e) : up (down a) = a := shapeCast_shapeCast _ _ _
theorem down_up {e : EltTy} (a : Vec F S256x2048 e) : down (up a) = a := shapeCast_shapeCast _ _ _

section Squeeze

variable {sp : Space} {e : EltTy} {sz : Fin 3 → ℕ} (M : Memref sig .tc sp ⟨3, sz⟩ e) (off : Fin 3 → ℕ)
  (inb : ∀ a, off a + S1x256x2048.size a ≤ (⟨3, sz⟩ : Shape).size a)

/-- One slot of a buffer of slots, as a 256 × 2048 array. -/
abbrev slotOf : Memref sig .tc sp S256x2048 e :=
  (M.slice (Rect.unit (s := ⟨3, sz⟩) off S1x256x2048.size inb) (fun _ => rfl)).squeeze S256x2048 squeezes_S1x256x2048_S256x2048

theorem slotOf_read (f : M.view.ty.Contents (Elt F)) :
    (slotOf M off inb).view.read (Elt F) f = down (M.view.readAt (Elt F) (Rect.unit (s := ⟨3, sz⟩) off S1x256x2048.size inb).toLoadRect f) := rfl
/-- A load of the slot reads the slot's array. -/
theorem slotOf_load (f : M.view.ty.Contents (Elt F)) :
    M.view.readAt (Elt F) (Rect.unit (s := ⟨3, sz⟩) off S1x256x2048.size inb).toLoadRect f = up ((slotOf M off inb).view.read (Elt F) f) := by
  rw [slotOf_read, up_down]
/-- After a store into the slot its array is the one stored. -/
theorem slotOf_store (f : M.view.ty.Contents (Elt F)) (v : Vec F S256x2048 e) :
    (slotOf M off inb).view.read (Elt F) ((M.access (Rect.unit (s := ⟨3, sz⟩) off S1x256x2048.size inb)).write (Elt F) f (up v) Finset.univ) = v := by
  rw [slotOf_read]
  refine (congrArg down ?_).trans (down_up v)
  exact View.read_write_univ (v := M.access (Rect.unit (s := ⟨3, sz⟩) off S1x256x2048.size inb)) f (up v)
theorem slotOf_set : (slotOf M off inb).view.set = (M.view.slice (Rect.unit (s := ⟨3, sz⟩) off S1x256x2048.size inb)).set :=
  View.set_reshape (v := M.view.slice _) _
theorem slotOf_setOn : M.view.setOn (Rect.unit (s := ⟨3, sz⟩) off S1x256x2048.size inb).toLoadRect.set = (slotOf M off inb).view.set := by
  rw [slotOf_set, View.set_slice]; rfl

end Squeeze

section Rules

variable (X : Dev nD → (cc0_stg0_0 : Ref sig .tc).ty.Contents (Elt F)) (Wt : Dev nD → (cc0_stg1_0 : Ref sig .tc).ty.Contents (Elt F))
variable (K : Dev nD × Cell → ℕ)

/-- Every semaphore of every device is governed by its rounds, and has come to round 0. -/
def records : sProp 𝕄 :=
  iprop((bigSep Finset.univ fun ck : Dev nD × Cell => cellInv ER (Rd X Wt) (K ck) (cell ck.1 ck.2))
    ∗ bigSep Finset.univ fun ck : Dev nD × Cell => reached ER (cell ck.1 ck.2) 0)
instance records_persistent : BI.Persistent (records X Wt K) := by unfold records; infer_instance

/-- What every rule may use: those records, and the levels. -/
def ctx : sProp 𝕄 := iprop(records X Wt K ∗ levAts L lv)
instance ctx_persistent : BI.Persistent (ctx X Wt K) := by unfold ctx; infer_instance

theorem inv_at (ck : Dev nD × Cell) :
    (bigSep Finset.univ fun ck : Dev nD × Cell => (cellInv ER (Rd X Wt) (K ck) (cell ck.1 ck.2) : sProp 𝕄)) ⊢ cellInv ER (Rd X Wt) (K ck) (cell ck.1 ck.2) :=
  bigSep_elim (Finset.mem_univ ck)
theorem reached_at (ck : Dev nD × Cell) :
    (bigSep Finset.univ fun ck : Dev nD × Cell => (reached ER (cell ck.1 ck.2) 0 : sProp 𝕄)) ⊢ reached ER (cell ck.1 ck.2) 0 :=
  bigSep_elim (Finset.mem_univ ck)
theorem ctx_inv (c : Dev nD) (k : Cell) : ctx X Wt K ⊢ cellInv ER (Rd X Wt) (K (c, k)) (cell c k) := by
  unfold ctx records
  iintro ⟨⟨#HI, -⟩, -⟩
  iapply (inv_at X Wt K (c, k))
  iexact HI
theorem ctx_reached (c : Dev nD) (k : Cell) : ctx X Wt K ⊢ reached ER (cell c k) 0 := by
  unfold ctx records
  iintro ⟨⟨-, #HR⟩, -⟩
  iapply (reached_at (c, k))
  iexact HR
theorem ctx_lev : ctx X Wt K ⊢ (levAts L lv : sProp 𝕄) := by
  unfold ctx; iintro ⟨-, #HL⟩; iexact HL

theorem ctx_mayWait {n i : ℕ} {O : CellTallies nD τ sig ℕ} (h : High n O) (hi : i ≤ n) (hi' : i < 40) (c : Dev nD) (sm : SemLoc sig) :
    ctx X Wt K ⊢ MayWait (c : Thread nD τ) sm i O := (ctx_lev X Wt K).trans (mayWait h hi hi' c sm)

/-- What device `c` owes, whatever it has waited for. -/
def ow (c : Dev nD) (O : CellTallies nD τ sig ℕ) : sProp 𝕄 := iprop(∃ W, owes (c : Thread nD τ) O W)

/-- A device's run of a program to a postcondition. -/
abbrev WP (c : Dev nD) (p : Pr F) (Q : PUnit → sProp 𝕄) : sProp 𝕄 := wp frame (wpE (defs₀ (F := F)) 𝒱₀ (c : Thread nD τ) none) Set.univ p Q

/-! ## Positions, tokens and credits -/

/-- The receive semaphore of launch `v` stands at the launch's round; likewise the send semaphore, and the output
    semaphore of store `n`. -/
def rp (q : Fin 4) (v : ℕ) (c : Dev nD) : sProp 𝕄 :=
  iprop(atPos ER (rcell q (sl (v + 1)) c) (v / 4) ∅ 0 ∗ reached ER (rcell q (sl (v + 1)) c) (v / 4))
def sp (q : Fin 4) (v : ℕ) (c : Dev nD) : sProp 𝕄 :=
  iprop(atPos ER (scell q (sl v) c) (v / 4) ∅ 0 ∗ reached ER (scell q (sl v) c) (v / 4))
def op (q : Fin 4) (n : ℕ) (c : Dev nD) : sProp 𝕄 :=
  iprop(atPos ER (ocell q (st n) c) (n / 2) ∅ 0 ∗ reached ER (ocell q (st n) c) (n / 2))
/-- `m` credits of ring `q` have been used. -/
def cpos (q : Fin 4) (m : ℕ) (c : Dev nD) : sProp 𝕄 :=
  iprop(∃ S : Finset ℕ, ⌜m + (Finset.range 27 \ S).card ≤ 27⌝ ∗ atPos ER (ccell q c) 0 S m)

def recvTok (q : Fin 4) (v : ℕ) (c : Dev nD) : sProp 𝕄 := dutyTok ER (rcell q (sl (v + 1)) (dst q c)) (v / 4) 0
def sendTok (q : Fin 4) (v : ℕ) (c : Dev nD) : sProp 𝕄 := dutyTok ER (scell q (sl v) c) (v / 4) 0
def credTok (q : Fin 4) (r : ℕ) (c : Dev nD) : sProp 𝕄 := dutyTok ER (ccell q (ups q c)) 0 r
def outTok (q : Fin 4) (n : ℕ) (c : Dev nD) : sProp 𝕄 := dutyTok ER (ocell q (st n) c) (n / 2) 0

def recvCr (q : Fin 4) (v : ℕ) (c : Dev nD) : sProp 𝕄 := cred (tallyAt (rcell q (sl (v + 1)) c) (v + 2) NS)
def sendCr (q : Fin 4) (v : ℕ) (c : Dev nD) : sProp 𝕄 := cred (tallyAt (scell q (sl v) c) 0 NS)
def creditCr (q : Fin 4) (r : ℕ) (c : Dev nD) : sProp 𝕄 := cred (tallyAt (ccell q c) (r + 3) 1)
def outCr (q : Fin 4) (n : ℕ) (c : Dev nD) : sProp 𝕄 := cred (tallyAt (ocell q (st n) c) 0 NO)

/-! ## The schedule at a launch -/

theorem lrecv_launch (v : ℕ) : lrecv (sl (v + 1)) (v / 4) = v := by unfold lrecv sl; show 4 * (v / 4) + ((v + 1) % 4 + 3) % 4 = v; omega
theorem lsend_launch (v : ℕ) : 4 * (v / 4) + (sl v).val = v := by show 4 * (v / 4) + v % 4 = v; omega
theorem lout_store (n : ℕ) : 2 * (n / 2) + (st n).val = n := by show 2 * (n / 2) + n % 2 = n; omega

theorem recv_duties (q : Fin 4) {v : ℕ} (hv : v < 30) (c : Dev nD) : (Rd X Wt).duties (rcell q (sl (v + 1)) c) (v / 4) = {0} := by
  refine (duties_cell X Wt c (some (q, .recv (sl (v + 1)))) (v / 4)).trans ?_
  show (if lrecv (sl (v + 1)) (v / 4) < 30 then {0} else ∅) = _
  rw [lrecv_launch, if_pos hv]
theorem send_duties (q : Fin 4) {v : ℕ} (hv : v < 30) (c : Dev nD) : (Rd X Wt).duties (scell q (sl v) c) (v / 4) = {0} := by
  refine (duties_cell X Wt c (some (q, .send (sl v))) (v / 4)).trans ?_
  show (if 4 * (v / 4) + (sl v).val < 30 then {0} else ∅) = _
  rw [lsend_launch, if_pos hv]
theorem out_duties (q : Fin 4) {n : ℕ} (hn : n < 16) (c : Dev nD) : (Rd X Wt).duties (ocell q (st n) c) (n / 2) = {0} := by
  refine (duties_cell X Wt c (some (q, .out (st n))) (n / 2)).trans ?_
  show (if 2 * (n / 2) + (st n).val < 16 then {0} else ∅) = _
  rw [lout_store, if_pos hn]
theorem credit_duties (q : Fin 4) (c : Dev nD) : (Rd X Wt).duties (ccell q c) 0 = Finset.range 27 :=
  duties_cell X Wt c (some (q, .credit)) 0
theorem bar_duties (c : Dev nD) : (Rd X Wt).duties (bcell c) 0 = {0, 1} := duties_cell X Wt c none 0

theorem recv_payload (q : Fin 4) (v : ℕ) (c : Dev nD) (d : ℕ) : (Rd X Wt).payload (rcell q (sl (v + 1)) c) (v / 4) d = recvPay X Wt q v c := by
  refine (payload_cell X Wt c (some (q, .recv (sl (v + 1)))) (v / 4) d).trans ?_
  show recvPay X Wt q (lrecv (sl (v + 1)) (v / 4)) c = _
  rw [lrecv_launch]
theorem send_payload (q : Fin 4) (v : ℕ) (c : Dev nD) (d : ℕ) : (Rd X Wt).payload (scell q (sl v) c) (v / 4) d = sendPay X Wt q v c := by
  refine (payload_cell X Wt c (some (q, .send (sl v))) (v / 4) d).trans ?_
  show sendPay X Wt q (4 * (v / 4) + (sl v).val) c = _
  rw [lsend_launch]
theorem out_payload (q : Fin 4) (n : ℕ) (c : Dev nD) (d : ℕ) : (Rd X Wt).payload (ocell q (st n) c) (n / 2) d = outPay X Wt q n c := by
  refine (payload_cell X Wt c (some (q, .out (st n))) (n / 2) d).trans ?_
  show outPay X Wt q (2 * (n / 2) + (st n).val) c = _
  rw [lout_store]
theorem credit_payload (q : Fin 4) (c : Dev nD) (r d : ℕ) : (Rd X Wt).payload (ccell q c) r d = iprop(emp) :=
  payload_cell X Wt c (some (q, .credit)) r d

theorem recv_amount (q s : Fin 4) (c : Dev nD) (r d : ℕ) : (Rd X Wt).amount (rcell q s c) r d = NS := amount_cell X Wt c (some (q, .recv s)) r d
theorem send_amount (q s : Fin 4) (c : Dev nD) (r d : ℕ) : (Rd X Wt).amount (scell q s c) r d = NS := amount_cell X Wt c (some (q, .send s)) r d
theorem out_amount (q : Fin 4) (t : Fin 2) (c : Dev nD) (r d : ℕ) : (Rd X Wt).amount (ocell q t c) r d = NO := amount_cell X Wt c (some (q, .out t)) r d
theorem credit_amount (q : Fin 4) (c : Dev nD) (r d : ℕ) : (Rd X Wt).amount (ccell q c) r d = 1 := amount_cell X Wt c (some (q, .credit)) r d
theorem bar_amount (c : Dev nD) (r d : ℕ) : (Rd X Wt).amount (bcell c) r d = 1 := amount_cell X Wt c none r d

theorem recv_expect (q : Fin 4) {v : ℕ} (hv : v < 30) (c : Dev nD) : (Rd X Wt).expect (rcell q (sl (v + 1)) c) (v / 4) = NS := by
  unfold Schedule.expect Schedule.amountOf; rw [recv_duties X Wt q hv, Finset.sum_singleton, recv_amount]
theorem send_expect (q : Fin 4) {v : ℕ} (hv : v < 30) (c : Dev nD) : (Rd X Wt).expect (scell q (sl v) c) (v / 4) = NS := by
  unfold Schedule.expect Schedule.amountOf; rw [send_duties X Wt q hv, Finset.sum_singleton, send_amount]
theorem out_expect (q : Fin 4) {n : ℕ} (hn : n < 16) (c : Dev nD) : (Rd X Wt).expect (ocell q (st n) c) (n / 2) = NO := by
  unfold Schedule.expect Schedule.amountOf; rw [out_duties X Wt q hn, Finset.sum_singleton, out_amount]
theorem credit_expect (q : Fin 4) (c : Dev nD) : (Rd X Wt).expect (ccell q c) 0 = 27 := by
  unfold Schedule.expect Schedule.amountOf
  rw [credit_duties, Finset.sum_congr rfl fun d _ => credit_amount X Wt q c 0 d, Finset.sum_const, Finset.card_range, smul_eq_mul]
theorem bar_expect (c : Dev nD) : (Rd X Wt).expect (bcell c) 0 = 2 := by
  unfold Schedule.expect Schedule.amountOf
  rw [bar_duties, Finset.sum_congr rfl fun d _ => bar_amount X Wt c 0 d, Finset.sum_const, smul_eq_mul]; rfl

/-- The staged blocks of `x` and `w`. -/
def staged (c : Dev nD) : sProp 𝕄 :=
  iprop(((xM.view.loc (c : Thread nD τ)) ↦[Finset.univ]{fullShare} X c) ∗ ((wM.view.loc (c : Thread nD τ)) ↦[Finset.univ]{fullShare} Wt c))

/-- A view's elements, held with contents the view reads as `a`. -/
theorem owns_of {c : Dev nD} {sp : Space} {sh : Shape} {e : EltTy} (m : Memref sig .tc sp sh e) {q : PosShare TreeShare} {a : sh.Idx → Elt F e}
    {f : m.view.ty.Contents (Elt F)} (h : m.view.read (Elt F) f = a) :
    (m.view.loc (c : Thread nD τ) ↦[m.view.set]{q} f : sProp 𝕄) ⊢ owns (c : Thread nD τ) m q a := by
  subst h; exact owns_intro (c : Thread nD τ) m q f

/-! ## Waits -/

section Waits

variable {X Wt K} {c : Dev nD} {O : CellTallies nD τ sig ℕ} {Q : PUnit → sProp (MT nD τ sig ℕ (Elt F) ℕ UU ℕ)}

theorem wait_slot (q s : Fin 4) {σ : DmaSem sig} {sp' : Space} {s' : Shape} {e' : EltTy} {src : Memref sig .tc sp' s' e'}
    {h₁ : src.view.WordExact} {h₂ : (slotV q s).view.WordExact} (R : PUnit → sProp 𝕄) :
    wpE (defs₀ (F := F)) 𝒱₀ (c : Thread nD τ) none Set.univ (.waitDma2 σ src (slotV q s) h₁ h₂) R = waitSpec (c : Thread nD τ) Set.univ (.dma σ) NS R := by
  rw [wpE_waitDma2_eq, credit_slot]
theorem wait_out (q : Fin 4) (n : Fin 16) (d : Dev nD) {σ : DmaSem sig} {sp' : Space} {s' : Shape} {e' : EltTy} {src : Memref sig .tc sp' s' e'}
    {h₁ : src.view.WordExact} {h₂ : (outV q n d).view.WordExact} (R : PUnit → sProp 𝕄) :
    wpE (defs₀ (F := F)) 𝒱₀ (c : Thread nD τ) none Set.univ (.waitDma2 σ src (outV q n d) h₁ h₂) R = waitSpec (c : Thread nD τ) Set.univ (.dma σ) NO R := by
  rw [wpE_waitDma2_eq, credit_out]

/-- The wait for what launch `v` brings. -/
theorem wp_recv (q : Fin 4) {v : ℕ} (hv : v < 30) (hO : High (v + 2) O) {k : PUnit → Pr F}
    {h₁ : (slotV q (sl v)).view.WordExact} {h₂ : (slotV q (sl (v + 1))).view.WordExact} :
    iprop(ctx X Wt K ∗ rp q v c ∗ recvCr q v c ∗ ow c O)
      ⊢ iprop(((rp q (v + 4) c ∗ recvPay X Wt q v c ∗ ow c O) -∗ WP c (k ⟨⟩) Q)
        -∗ WP c (.op (.waitDma2 (rsem q (sl (v + 1))) (slotV q (sl v)) (slotV q (sl (v + 1))) h₁ h₂) k) Q) := by
  iintro ⟨#HC, Hp, Hc, Ho⟩ Hk
  unfold rp recvCr ow
  icases Hp with ⟨Hp, -⟩
  icases Ho with ⟨%W, Ho⟩
  iapply (Rounds.wp_wait_rest_token 𝒱₀ ER (Rd X Wt) (c : Thread nD τ) none (κ := K (c, some (q, .recv (sl (v + 1)))))
      (wait_slot q (sl (v + 1))) (Set.mem_univ _) (v + 2) (O := O) (W := W) (R := v / 4) (m := 0) (T := ∅)
      (by rw [recv_expect X Wt q hv, Nat.zero_add])) $$ [Hp Hc Ho]
  · isplitr; · iapply (ctx_inv X Wt K c (some (q, .recv (sl (v + 1))))); iexact HC
    isplitl [Hc]; · iexact Hc
    isplitl [Ho]; · iexact Ho
    isplitr; · iapply (ctx_mayWait X Wt K (i := v + 2) hO le_rfl (by omega) c (.dma (rsem q (sl (v + 1))))); iexact HC
    iexact Hp
  rw [Finset.sdiff_empty, recv_duties X Wt q hv, bigSep_singleton, recv_payload]
  iintro ⟨Ho, Hp, Hr, Hpay⟩
  iapply Hk
  rw [show sl (v + 4 + 1) = sl (v + 1) from Fin.ext (by show (v + 4 + 1) % 4 = (v + 1) % 4; omega), show (v + 4) / 4 = v / 4 + 1 by omega]
  isplitl [Hp Hr]
  · isplitl [Hp]; · iexact Hp
    iexact Hr
  isplitl [Hpay]; · iexact Hpay
  iexists _; iexact Ho

/-- The wait for launch `v` to have left. -/
theorem wp_waitSend (q : Fin 4) {v : ℕ} (hv : v < 30) (hO : High 0 O) {k : Pr F} :
    iprop(ctx X Wt K ∗ sp q v c ∗ sendCr q v c ∗ ow c O)
      ⊢ iprop(((sp q (v + 4) c ∗ sendPay X Wt q v c ∗ ow c O) -∗ WP c k Q) -∗ WP c (waitSend q v k) Q) := by
  iintro ⟨#HC, Hp, Hc, Ho⟩ Hk
  unfold sp sendCr ow waitSend
  icases Hp with ⟨Hp, -⟩
  icases Ho with ⟨%W, Ho⟩
  iapply (Rounds.wp_wait_rest_token 𝒱₀ ER (Rd X Wt) (c : Thread nD τ) none (κ := K (c, some (q, .send (sl v))))
      (wait_slot q (sl v)) (Set.mem_univ _) 0 (O := O) (W := W) (R := v / 4) (m := 0) (T := ∅)
      (by rw [send_expect X Wt q hv, Nat.zero_add])) $$ [Hp Hc Ho]
  · isplitr; · iapply (ctx_inv X Wt K c (some (q, .send (sl v)))); iexact HC
    isplitl [Hc]; · iexact Hc
    isplitl [Ho]; · iexact Ho
    isplitr; · iapply (ctx_mayWait X Wt K (i := 0) hO le_rfl (by omega) c (.dma (ssem q (sl v)))); iexact HC
    iexact Hp
  rw [Finset.sdiff_empty, send_duties X Wt q hv, bigSep_singleton, send_payload]
  iintro ⟨Ho, Hp, Hr, Hpay⟩
  iapply Hk
  rw [show sl (v + 4) = sl v from Fin.ext (by show (v + 4) % 4 = v % 4; omega), show (v + 4) / 4 = v / 4 + 1 by omega]
  isplitl [Hp Hr]
  · isplitl [Hp]; · iexact Hp
    iexact Hr
  isplitl [Hpay]; · iexact Hpay
  iexists _; iexact Ho

/-- The wait for output copy `n`. -/
theorem wp_waitOut (q : Fin 4) (n : Fin 16) (hO : High 0 O) {k : Pr F} :
    iprop(ctx X Wt K ∗ op q n c ∗ outCr q n c ∗ ow c O)
      ⊢ iprop(((op q (n + 2) c ∗ outPay X Wt q n c ∗ ow c O) -∗ WP c k Q) -∗ WP c (waitOut c q n k) Q) := by
  iintro ⟨#HC, Hp, Hc, Ho⟩ Hk
  unfold op outCr ow waitOut
  icases Hp with ⟨Hp, -⟩
  icases Ho with ⟨%W, Ho⟩
  iapply (Rounds.wp_wait_rest_token 𝒱₀ ER (Rd X Wt) (c : Thread nD τ) none (κ := K (c, some (q, .out (st n))))
      (wait_out q n c) (Set.mem_univ _) 0 (O := O) (W := W) (R := (n : ℕ) / 2) (m := 0) (T := ∅)
      (by rw [out_expect X Wt q n.isLt, Nat.zero_add])) $$ [Hp Hc Ho]
  · isplitr; · iapply (ctx_inv X Wt K c (some (q, .out (st n)))); iexact HC
    isplitl [Hc]; · iexact Hc
    isplitl [Ho]; · iexact Ho
    isplitr; · iapply (ctx_mayWait X Wt K (i := 0) hO le_rfl (by omega) c (.dma (osem q (st n)))); iexact HC
    iexact Hp
  rw [Finset.sdiff_empty, out_duties X Wt q n.isLt, bigSep_singleton, out_payload]
  iintro ⟨Ho, Hp, Hr, Hpay⟩
  iapply Hk
  rw [show st ((n : ℕ) + 2) = st n from Fin.ext (by show ((n : ℕ) + 2) % 2 = (n : ℕ) % 2; omega), show ((n : ℕ) + 2) / 2 = (n : ℕ) / 2 + 1 by omega]
  isplitl [Hp Hr]
  · isplitl [Hp]; · iexact Hp
    iexact Hr
  isplitl [Hpay]; · iexact Hpay
  iexists _; iexact Ho

/-- The wait for credit `r`. -/
theorem wp_creditWait (q : Fin 4) {r : ℕ} (hr : r < 27) (hO : High (r + 3) O) {k : PUnit → Pr F} :
    iprop(ctx X Wt K ∗ cpos q r c ∗ creditCr q r c ∗ ow c O)
      ⊢ iprop(((cpos q (r + 1) c ∗ ow c O) -∗ WP c (k ⟨⟩) Q) -∗ WP c (.op (.semWait (csem q) ((1 : ℕ) : ℤ)) k) Q) := by
  iintro ⟨#HC, Hp, Hc, Ho⟩ Hk
  unfold cpos creditCr ow
  icases Hp with ⟨%T, %hT, Hp⟩
  icases Ho with ⟨%W, Ho⟩
  iapply (Rounds.wp_wait 𝒱₀ ER (Rd X Wt) (c : Thread nD τ) none (κ := K (c, some (q, .credit)))
      (wpE_semWait_eq 𝒱₀ (c : Thread nD τ) none Set.univ) (Set.mem_univ _)
      {((.reg (csem q) : SemLoc sig), r + 3)} (O := O) (W := W) (R := 0) (m := r) (T := T)
      (Util.total_single _ _) (image_single_subset (.reg (csem q)) (r + 3) 1)) $$ [Hp Hc Ho]
  · isplitr; · iapply (ctx_inv X Wt K c (some (q, .credit))); iexact HC
    isplitl [Hc]; · iexact Hc
    isplitl [Ho]; · iexact Ho
    isplitr; · iapply (ctx_mayWait X Wt K (i := r + 3) hO le_rfl (by omega) c (.reg (csem q))); iexact HC
    iexact Hp
  rw [credit_duties, credit_expect]
  iintro %S ⟨%hS, Ho, Hp, -⟩
  iapply Hk
  isplitl [Hp]
  · iexists S
    isplitr; · ipureintro; exact hS.2.2
    iexact Hp
  iexists _; iexact Ho

/-! ## Launches, credits, loads and stores -/

/-- Launch `u` over the buffers themselves. -/
theorem wp_send_slot (q : Fin 4) {u : ℕ} (hu : u < 30) {k : PUnit → Pr F} {W : Waits sig ℕ}
    {fs : Buf (Elt F) ((slotV q (sl u)).view.loc (c : Thread nD τ))} (hfs : (slotV q (sl u)).view.read (Elt F) fs = acc X Wt q u c)
    (fd : Buf (Elt F) ((slotV q (sl (u + 1))).view.loc (dst q c : Thread nD τ)))
    {hsc : (slotV q (sl (u + 1))).view.ref.isScScratch = false}
    {h₁ : (slotV q (sl u)).view.WordExact} {h₂ : (slotV q (sl (u + 1))).view.WordExact}
    {hsem : DmaTarget.Typed .vmem (.dma (rsem q (sl (u + 1)))) (.remote (Dev.tc (dst q c) : Thread nD τ) (slotV q (sl (u + 1))) (.dma (ssem q (sl u))) hsc)} :
    iprop(cellInv ER (Rd X Wt) (K (c, some (q, .send (sl u)))) (scell q (sl u) c)
        ∗ cellInv ER (Rd X Wt) (K (dst q c, some (q, .recv (sl (u + 1))))) (rcell q (sl (u + 1)) (dst q c))
        ∗ ((slotV q (sl u)).view.loc (c : Thread nD τ) ↦[(slotV q (sl u)).view.set]{fullShare.left} fs)
        ∗ (((slotV q (sl (u + 1))).view.loc (dst q c : Thread nD τ) ↦[(slotV q (sl (u + 1))).view.set]{fullShare} fd) ∗ extra q u (dst q c))
        ∗ owes (c : Thread nD τ) (O + dueR q c u) W
        ∗ dutyTok ER (scell q (sl u) c) (u / 4) 0 ∗ reached ER (scell q (sl u) c) (u / 4)
        ∗ dutyTok ER (rcell q (sl (u + 1)) (dst q c)) (u / 4) 0 ∗ reached ER (rcell q (sl (u + 1)) (dst q c)) (u / 4))
      ⊢ iprop(((cred (tallyAt (scell q (sl u) c) 0 NS) ∗ owes (c : Thread nD τ) O W) -∗ WP c (k ⟨⟩) Q)
        -∗ WP c (.op (.enqueueDma (slotV q (sl u)) (.remote (Dev.tc (dst q c)) (slotV q (sl (u + 1))) (.dma (ssem q (sl u))) hsc) (.dma (rsem q (sl (u + 1))))
            h₁ h₂ hsem) k) Q) := by
  exact Rounds.wp_send_pointsTo_with 𝒱₀ ER (Rd X Wt) (c : Thread nD τ) none (κ₁ := K (c, some (q, .send (sl u))))
    (κ₂ := K (dst q c, some (q, .recv (sl (u + 1))))) (r₁ := u / 4) (r₂ := u / 4) (d₁ := 0) (d₂ := 0) (fd := fd)
    (sS := .dma (ssem q (sl u))) (sem := .dma (rsem q (sl (u + 1))))
    (by rw [send_duties X Wt q hu]; exact Finset.mem_singleton_self _) (by rw [recv_duties X Wt q hu]; exact Finset.mem_singleton_self _)
    (u + 2) 0 NS (credit_slot q (sl (u + 1))) (send_amount X Wt q (sl u) c _ _) (recv_amount X Wt q (sl (u + 1)) (dst q c) _ _) O rfl (W := W)
    (by
      rw [send_payload]; unfold sendPay slotO
      exact owns_of _ hfs)
    (by
      rw [recv_payload, recvPay, ups_dst]
      refine sep_mono_left ?_
      unfold slotO
      exact owns_of _ ((View.read_write_univ (v := (slotV q (sl (u + 1))).view) fd _).trans hfs))

/-- Launch `u`: the slot is lent by half until the launch has left, and the leave and what travels along are used up. -/
theorem wp_sendR (q : Fin 4) {u : ℕ} (hu : u < 30) {k : Pr F} :
    iprop(ctx X Wt K ∗ slotO q (sl u) c fullShare (acc X Wt q u c) ∗ leave q u (dst q c) ∗ extra q u (dst q c) ∗ ow c (O + dueR q c u)
        ∗ recvTok q u c ∗ sendTok q u c ∗ reached ER (scell q (sl u) c) (u / 4))
      ⊢ iprop(((slotO q (sl u) c fullShare.right (acc X Wt q u c) ∗ sendCr q u c ∗ ow c O) -∗ WP c k Q) -∗ WP c (sendR c q u k) Q) := by
  unfold leave slotO owns ow recvTok sendTok sendR
  iintro ⟨#HC, Hs, ⟨⟨%a, %fd, %hfd, Hd⟩, Hr2⟩, Hx, Ho, Ht2, Ht1, Hr1⟩ Hk
  icases Hs with ⟨%fs, %hfs, Hs⟩
  icases Ho with ⟨%W, Ho⟩
  ihave Hs := (pointsTo_share (PosShare.mem_left_op_right fullShare)).mp $$ Hs
  icases Hs with ⟨Hl, Hr⟩
  iapply (wp_send_slot (X := X) (Wt := Wt) (K := K) q hu hfs fd) $$ [Hl Hd Hx Ho Ht1 Ht2 Hr1 Hr2]
  · isplitr; · iapply (ctx_inv X Wt K c (some (q, .send (sl u)))); iexact HC
    isplitr; · iapply (ctx_inv X Wt K (dst q c) (some (q, .recv (sl (u + 1))))); iexact HC
    isplitl [Hl]; · iexact Hl
    isplitl [Hd Hx]
    · isplitl [Hd]; · iexact Hd
      iexact Hx
    isplitl [Ho]; · iexact Ho
    isplitl [Ht1]; · iexact Ht1
    isplitl [Hr1]; · iexact Hr1
    isplitl [Ht2]; · iexact Ht2
    iexact Hr2
  iintro ⟨Hc, Ho⟩
  iapply Hk
  isplitl [Hr]
  · iexists fs
    isplitr; · ipureintro; exact hfs
    iexact Hr
  unfold sendCr
  isplitl [Hc]; · iexact Hc
  iexists W; iexact Ho

/-- Giving credit `r`. -/
theorem wp_creditSignal (q : Fin 4) {r : ℕ} (hr : r < 27) {k : PUnit → Pr F} :
    iprop(ctx X Wt K ∗ credTok q r c ∗ ow c (O + tallyAt (ccell q (ups q c)) (r + 3) 1))
      ⊢ iprop((ow c O -∗ WP c (k ⟨⟩) Q) -∗ WP c (.op (.semSignal (Dev.tc (ups q c)) (csem q) ((1 : ℕ) : ℤ)) k) Q) := by
  iintro ⟨#HC, Ht, Ho⟩ Hk
  unfold credTok ow
  icases Ho with ⟨%W, Ho⟩
  iapply (Rounds.wp_signal 𝒱₀ ER (Rd X Wt) (c : Thread nD τ) none (dst := (ups q c : Thread nD τ)) (κ := K (ups q c, some (q, .credit))) (d := r)
      (by rw [credit_duties X Wt q]; exact Finset.mem_range.mpr hr) (credit_amount X Wt q (ups q c) 0 r) (r + 3) O rfl) $$ [Ht Ho]
  · isplitr; · iapply (ctx_inv X Wt K (ups q c) (some (q, .credit))); iexact HC
    isplitl [Ho]; · iexact Ho
    isplitl [Ht]; · iexact Ht
    isplitr
    · rw [credit_payload]; iempintro
    iapply (ctx_reached X Wt K (ups q c) (some (q, .credit))); iexact HC
  iintro Ho
  iapply Hk
  iexists W; iexact Ho

/-- A product of staged blocks. -/
theorem wp_loadProd (q : Fin 4) (off : Fin 2 → ℕ) (h : ∀ a, off a + S256x256.size a ≤ S4096x256.size a) {k : FVec F S256x2048 .bf16 → Pr F} :
    staged X Wt c ⊢ iprop((staged X Wt c -∗ WP c (k (prodAt X Wt q c off h)) Q) -∗ WP c (loadProd xM wM q off h k) Q) := by
  unfold staged loadProd
  iintro ⟨Hx, Hw⟩ Hk
  iapply (wp_load 𝒱₀ (c : Thread nD τ) none Set.univ (m := xM) (Finset.subset_univ _)) $$ Hx
  iintro Hx
  iapply (wp_load 𝒱₀ (c : Thread nD τ) none Set.univ (m := wM) (Finset.subset_univ _)) $$ Hw
  iintro Hw
  iapply Hk
  isplitl [Hx]; · iexact Hx
  iexact Hw

/-- A load of a slot. -/
theorem wp_loadSlot (q s : Fin 4) {p : PosShare TreeShare} {a : FVec F S256x2048 .bf16} {k : Vec F S1x256x2048 .bf16 → Pr F} :
    slotO q s c p a ⊢ iprop((slotO q s c p a -∗ WP c (k (up a)) Q) -∗ WP c (loadSlot q s k) Q) := by
  unfold slotO owns loadSlot
  iintro ⟨%f, %hf, H⟩ Hk
  iapply (show ((slotV q s).view.loc (c : Thread nD τ) ↦[(slotV q s).view.set]{p} f) ⊢ _ from
    wp_load 𝒱₀ (c : Thread nD τ) none Set.univ (m := comm q) (r := (slotR s).toLoadRect) (slotOf_setOn (comm q) _ (slot_inb s)).le) $$ H
  iintro H
  have e : (comm q).view.readAt (Elt F) (slotR s).toLoadRect f = up a := (slotOf_load (comm q) _ (slot_inb s) f).trans (congrArg up hf)
  rw [e]
  iapply Hk
  iexists f
  isplitr; · ipureintro; exact hf
  iexact H

/-- A store into a slot. -/
theorem wp_storeSlot (q s : Fin 4) {a v : FVec F S256x2048 .bf16} {k : Pr F} :
    slotO q s c fullShare a ⊢ iprop((slotO q s c fullShare v -∗ WP c k Q) -∗ WP c (storeSlot q s v k) Q) := by
  unfold slotO owns storeSlot
  iintro ⟨%f, %hf, H⟩ Hk
  iapply (show ((slotV q s).view.loc (c : Thread nD τ) ↦[(slotV q s).view.set]{fullShare} f) ⊢ _ from
    wp_store 𝒱₀ (c : Thread nD τ) none Set.univ (m := comm q) (r := slotR s) (Mk := Finset.univ)
    ((View.setOn_univ (v := (comm q).access (slotR s))).trans (slotOf_set (comm q) _ (slot_inb s)).symm).le) $$ H
  iintro H
  iapply Hk
  iexists _
  isplitr; · ipureintro; exact slotOf_store (comm q) _ (slot_inb s) f v
  iexact H

end Waits

end Rules

end Cert.KernelIdeal.Rings
-- ==== Proof.Rings.Stores.lean ====
/-
  A ring's stores into the result: what has been put out, what is under way, and what is still to come, and the store
  of one block through the staging buffer.
-/
module

public import proofs.«01_k».proof.Proof.Rings.Ops
public import Idealize.SL.BI.BigOpNat

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {X : Dev nD → (cc0_stg0_0 : Ref sig .tc).ty.Contents (Elt F)} {Wt : Dev nD → (cc0_stg1_0 : Ref sig .tc).ty.Contents (Elt F)}
variable {K : Dev nD × Cell → ℕ}
variable {c : Dev nD} {O : CellTallies nD τ sig ℕ} {Q : PUnit → sProp (MT nD τ sig ℕ (Elt F) ℕ UU ℕ)}

/-- A piece of the result not yet put out, and the right to put it out. -/
def outTodo (q : Fin 4) (n : ℕ) (c : Dev nD) : sProp 𝕄 := iprop((∃ a, outO q n c a) ∗ outTok q n c)

variable (X Wt) in
/-- Ring `q`'s part of the result when `k` of its stores have been started: the last two of these are under way. -/
def outSt (q : Fin 4) (k : ℕ) (c : Dev nD) : sProp 𝕄 :=
  iprop((bigSep (Finset.Ico k 16) fun n => outTodo q n c)
    ∗ (bigSep (Finset.range (k - 2)) fun n => outO q n c (outVal X Wt q n c))
    ∗ (bigSep (Finset.Ico (k - 2) k) fun n => outCr q n c)
    ∗ op q (k - 2) c ∗ op q (k - 2 + 1) c
    ∗ (bigSep (Finset.Ico k 2) fun n => stageO q (st n) c))

theorem ico_emp {a b : ℕ} (h : b ≤ a) (A : ℕ → sProp 𝕄) : bigSep (Finset.Ico a b) A = iprop(emp) := by
  rw [Finset.Ico_eq_empty_of_le h, bigSep_empty]; rfl

theorem on_val (n : Fin 16) : on n.val = n := Fin.ext (Nat.mod_eq_of_lt n.isLt)

/-- The copy of a staging slot out to the result, over the buffers themselves. -/
theorem wp_copy_out (q : Fin 4) (n : Fin 16) {k : PUnit → Pr F}
    {fs : Buf (Elt F) ((stageV q (st n)).view.loc (c : Thread nD τ))} (hfs : (stageV q (st n)).view.read (Elt F) fs = outVal X Wt q n c)
    (fd : Buf (Elt F) ((outV q n c).view.loc (c : Thread nD τ)))
    {h₁ : (stageV q (st n)).view.WordExact} {h₂ : (outV q n c).view.WordExact}
    {hsem : DmaTarget.Typed (nD := nD) .vmem (.dma (osem q (st n))) (.here (p := (c : Thread nD τ).2) (outV q n c))} :
    iprop(cellInv ER (Rd X Wt) (K (c, some (q, .out (st n)))) (ocell q (st n) c)
        ∗ ((stageV q (st n)).view.loc (c : Thread nD τ) ↦[(stageV q (st n)).view.set]{fullShare} fs)
        ∗ ((outV q n c).view.loc (c : Thread nD τ) ↦[(outV q n c).view.set]{fullShare} fd)
        ∗ dutyTok ER (ocell q (st n) c) ((n : ℕ) / 2) 0 ∗ reached ER (ocell q (st n) c) ((n : ℕ) / 2))
      ⊢ iprop((cred (tallyAt (ocell q (st n) c) 0 NO) -∗ WP c (k ⟨⟩) Q)
        -∗ WP c (.op (.enqueueDma (stageV q (st n)) (.here (outV q n c)) (.dma (osem q (st n))) h₁ h₂ hsem) k) Q) := by
  exact Rounds.wp_copy_pointsTo 𝒱₀ ER (Rd X Wt) (c : Thread nD τ) none (κ := K (c, some (q, .out (st n)))) (r := (n : ℕ) / 2) (d := 0) (fd := fd)
    (sem := .dma (osem q (st n)))
    (by rw [out_duties X Wt q n.isLt]; exact Finset.mem_singleton_self _) 0 NO (credit_out q n c) (out_amount X Wt q (st n) c _ _)
    (by
      rw [out_payload, outPay]
      refine BIClass.sep_mono ?_ ?_
      · unfold outO; rw [on_val]
        exact owns_of _ ((View.read_write_univ (v := (outV q n c).view) fd _).trans hfs)
      · unfold stageO
        refine (owns_of _ rfl).trans ?_
        iintro H; iexists _; iexact H)

/-- A store of the slot's contents through a free staging slot. -/
theorem wp_put (q s : Fin 4) (n : Fin 16) {p : PosShare TreeShare} {k : Pr F} :
    iprop(ctx X Wt K ∗ slotO q s c p (acc X Wt q (15 + n) c) ∗ stageO q (st n) c ∗ outTodo q n c ∗ reached ER (ocell q (st n) c) ((n : ℕ) / 2))
      ⊢ iprop(((slotO q s c p (acc X Wt q (15 + n) c) ∗ outCr q n c) -∗ WP c k Q)
        -∗ WP c (loadSlot q s fun a =>
            .op (.load (stage q) (stageR (st n.val)).toLoadRect (View.loadsAt_vmem h_S1x256x2048)) fun _ =>
            .op (.store (stage q) (stageR (st n.val)) (up (reluV (down a))) Finset.univ
              (View.stores_vmem_bits_univ h_S1x256x2048 rfl) (.inl rfl)) fun _ =>
            .op (.enqueueDma (stageV q (st n.val)) (.here (outV q n c)) (.dma (osem q (st n.val)))
              (stage_exact q _) (View.wordExact_bits rfl) ⟨Or.inl rfl, trivial⟩) fun _ => k) Q) := by
  unfold stageO outTodo outO outTok
  iintro ⟨#HC, Hs, ⟨%a₀, Ht⟩, ⟨⟨%a₁, Ho⟩, Hk⟩, Hr⟩ Hcont
  iapply (wp_loadSlot q s) $$ Hs
  iintro Hs
  rw [down_up, on_val]
  unfold owns
  icases Ht with ⟨%f, -, Ht⟩
  icases Ho with ⟨%fd, -, Ho⟩
  iapply (show ((stageV q (st n)).view.loc (c : Thread nD τ) ↦[(stageV q (st n)).view.set]{fullShare} f) ⊢ _ from
    wp_load 𝒱₀ (c : Thread nD τ) none Set.univ (m := stage q) (r := (stageR (st n)).toLoadRect) (slotOf_setOn (stage q) _ (stage_inb (st n))).le) $$ Ht
  iintro Ht
  iapply (show ((stage q).view.loc (c : Thread nD τ) ↦[(stageV q (st n)).view.set]{fullShare} f) ⊢ _ from
    wp_store 𝒱₀ (c : Thread nD τ) none Set.univ (m := stage q) (r := stageR (st n)) (Mk := Finset.univ)
    ((View.setOn_univ (v := (stage q).access (stageR (st n)))).trans (slotOf_set (stage q) _ (stage_inb (st n))).symm).le) $$ Ht
  iintro Ht
  iapply (wp_copy_out (X := X) (Wt := Wt) (K := K) q n (slotOf_store (stage q) _ (stage_inb (st n)) f (outVal X Wt q n c)) fd) $$ [Ht Ho Hk Hr]
  · isplitr; · iapply (ctx_inv X Wt K c (some (q, .out (st n)))); iexact HC
    isplitl [Ht]; · iexact Ht
    isplitl [Ho]; · iexact Ho
    isplitl [Hk]; · iexact Hk
    iexact Hr
  iintro Hc
  iapply Hcont
  unfold outCr
  isplitl [Hs]; · iexact Hs
  iexact Hc

theorem sub_two {n : Fin 16} (h : 2 ≤ n.val) : (n - 2 : Fin 16).val = n.val - 2 := Fin.sub_val_of_le (a := n) (b := 2) h

/-- Store number `n`. -/
theorem wp_reluStore (q s : Fin 4) (n : Fin 16) (hO : High 0 O) {p : PosShare TreeShare} {k : Pr F} :
    iprop(ctx X Wt K ∗ slotO q s c p (acc X Wt q (15 + n) c) ∗ outSt X Wt q n c ∗ ow c O)
      ⊢ iprop(((slotO q s c p (acc X Wt q (15 + n) c) ∗ outSt X Wt q (n + 1) c ∗ ow c O) -∗ WP c k Q) -∗ WP c (reluStore c q s n k) Q) := by
  have hn := n.isLt
  unfold outSt reluStore
  dsimp only
  rw [bigSep_Ico_succ_bot hn]
  by_cases h2 : 2 ≤ n.val
  · rw [if_pos h2, show n.val + 1 - 2 = n.val - 2 + 1 by omega, bigSep_range_succ,
      ico_emp (show 2 ≤ n.val by omega), ico_emp (show 2 ≤ n.val + 1 by omega),
      bigSep_Ico_succ_bot (show n.val - 2 < n.val by omega), bigSep_Ico_succ_top (show n.val - 2 + 1 ≤ n.val by omega),
      show n.val - 2 + 1 + 1 = n.val by omega]
    iintro ⟨#HC, Hs, ⟨⟨Htd, Hrest⟩, Hdone, Hcr, Hp0, Hp1, Hst⟩, Ho⟩ Hk
    icases Hcr with ⟨Hc, Hcr⟩
    iapply (wp_waitOut (X := X) (Wt := Wt) (K := K) q (n - 2) hO) $$ [Hp0 Hc Ho]
    · rw [sub_two h2]
      isplitr; · iexact HC
      isplitl [Hp0]; · iexact Hp0
      isplitl [Hc]; · iexact Hc
      iexact Ho
    rw [sub_two h2, show n.val - 2 + 2 = n.val by omega, outPay,
      show st (n.val - 2) = st n.val from Fin.ext (by show (n.val - 2) % 2 = n.val % 2; omega)]
    unfold op
    icases Hp1 with ⟨Hp1, Hr1⟩
    iintro ⟨⟨Hp2, #Hr2⟩, ⟨Hd, Hfree⟩, Ho⟩
    iapply (wp_put (X := X) (Wt := Wt) (K := K) q s n) $$ [Hs Hfree Htd]
    · isplitr; · iexact HC
      isplitl [Hs]; · iexact Hs
      isplitl [Hfree]; · iexact Hfree
      isplitl [Htd]; · iexact Htd
      iexact Hr2
    iintro ⟨Hs, Hc⟩
    iapply Hk
    isplitl [Hs]; · iexact Hs
    isplitr [Ho]
    · isplitl [Hrest]; · iexact Hrest
      isplitl [Hdone Hd]
      · isplitl [Hd]; · iexact Hd
        iexact Hdone
      isplitl [Hcr Hc]
      · isplitl [Hc]; · iexact Hc
        iexact Hcr
      isplitl [Hp1 Hr1]
      · isplitl [Hp1]; · iexact Hp1
        iexact Hr1
      isplitl [Hp2]
      · isplitl [Hp2]; · iexact Hp2
        iexact Hr2
      iexact Hst
    iexact Ho
  · have h2' : n.val < 2 := by omega
    rw [if_neg h2, show n.val - 2 = 0 by omega, show n.val + 1 - 2 = 0 by omega, bigSep_Ico_succ_bot h2',
      bigSep_Ico_succ_top (show 0 ≤ n.val by omega)]
    unfold op
    iintro ⟨#HC, Hs, ⟨⟨Htd, Hrest⟩, Hdone, Hcr, Hp0, Hp1, Hst⟩, Ho⟩ Hk
    icases Hst with ⟨Hfree, Hst⟩
    icases Hp0 with ⟨Hp0, #Hr0⟩
    icases Hp1 with ⟨Hp1, #Hr1⟩
    iapply (wp_put (X := X) (Wt := Wt) (K := K) q s n) $$ [Hs Hfree Htd]
    · isplitr; · iexact HC
      isplitl [Hs]; · iexact Hs
      isplitl [Hfree]; · iexact Hfree
      isplitl [Htd]; · iexact Htd
      rcases (by omega : n.val = 0 ∨ n.val = 1) with e | e <;> rw [e]
      · iexact Hr0
      · iexact Hr1
    iintro ⟨Hs, Hc⟩
    iapply Hk
    isplitl [Hs]; · iexact Hs
    isplitr [Ho]
    · isplitl [Hrest]; · iexact Hrest
      isplitl [Hdone]; · iexact Hdone
      isplitl [Hcr Hc]
      · isplitl [Hc]; · iexact Hc
        iexact Hcr
      isplitl [Hp0]
      · isplitl [Hp0]; · iexact Hp0
        iexact Hr0
      isplitl [Hp1]
      · isplitl [Hp1]; · iexact Hp1
        iexact Hr1
      iexact Hst
    iexact Ho

end Cert.KernelIdeal.Rings
-- ==== Proof.Rings.Steps.lean ====
/-
  A ring's steps: what a ring holds when a step starts, and that a step takes it from one step's holdings to the next's.
-/
module

public import proofs.«01_k».proof.Proof.Rings.Stores

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {X : Dev nD → (cc0_stg0_0 : Ref sig .tc).ty.Contents (Elt F)} {Wt : Dev nD → (cc0_stg1_0 : Ref sig .tc).ty.Contents (Elt F)}
variable {K : Dev nD × Cell → ℕ}
variable {c : Dev nD} {O : CellTallies nD τ sig ℕ} {Q : PUnit → sProp (MT nD τ sig ℕ (Elt F) ℕ UU ℕ)}

/-! ## What a ring holds between operations -/

/-- The four receive semaphores' positions from launch `v` on, and the four send semaphores'. -/
def rps (q : Fin 4) (v : ℕ) (c : Dev nD) : sProp 𝕄 := iprop(rp q v c ∗ rp q (v + 1) c ∗ rp q (v + 2) c ∗ rp q (v + 3) c)
def sps (q : Fin 4) (v : ℕ) (c : Dev nD) : sProp 𝕄 := iprop(sp q v c ∗ sp q (v + 1) c ∗ sp q (v + 2) c ∗ sp q (v + 3) c)

/-- The credits used and to be used when step `u` starts. -/
def credS (q : Fin 4) (u : ℕ) (c : Dev nD) : sProp 𝕄 :=
  iprop(cpos q (u - 3) c ∗ bigSep (Finset.Ico (u - 3) 27) fun r => creditCr q r c)

/-- The rights to the launches from `u` on. -/
def toks (q : Fin 4) (u : ℕ) (c : Dev nD) : sProp 𝕄 := bigSep (Finset.Ico u 30) fun v => iprop(recvTok q v c ∗ sendTok q v c)

variable (X Wt) in
/-- The launch still leaving the device when step `u` starts: the half of its source that is kept, and the credit for
    its end. -/
def sentS (q : Fin 4) : ℕ → Dev nD → sProp 𝕄
  | 0, _ => iprop(emp)
  | v + 1, c => iprop(slotO q (sl v) c fullShare.right (acc X Wt q v c) ∗ sendCr q v c)

variable (X Wt) in
/-- The sending side when step `u` starts. -/
def sendS (q : Fin 4) (u : ℕ) (c : Dev nD) : sProp 𝕄 :=
  iprop(sps q (u - 1) c ∗ (bigSep (Finset.Ico (u - 1) 27) fun r => credTok q r c) ∗ sentS X Wt q u c)

/-- The slot that is free again when step `u`'s launch is done. -/
def freeS (q : Fin 4) : ℕ → Dev nD → sProp 𝕄
  | 0, _ => iprop(emp)
  | v + 1, c => iprop(∃ a, slotO q (sl v) c fullShare a)

/-- That slot as the leave for a later launch into the device, if there is one, and otherwise kept. -/
def freedP (q : Fin 4) : ℕ → Dev nD → sProp 𝕄
  | 0, _ => iprop(emp)
  | v + 1, c => perm q (v + 3) c
def keptU (q : Fin 4) (u : ℕ) (c : Dev nD) : sProp 𝕄 := if 28 ≤ u then freeS q u c else iprop(emp)

/-- What comes with the launch that step `u` starts by taking in. -/
def recvX (q : Fin 4) : ℕ → Dev nD → sProp 𝕄
  | 0, _ => iprop(emp)
  | v + 1, c => extra q v c

variable (X Wt) in
/-- The receiving side when step `u` starts, and after it has taken in the launch before. -/
def recvS (q : Fin 4) : ℕ → Dev nD → sProp 𝕄
  | 0, c => iprop(rps q 0 c ∗ (bigSep (Finset.Ico 0 30) fun v => recvCr q v c) ∗ slotO q (sl 0) c fullShare (acc X Wt q 0 c))
  | v + 1, c => iprop(rps q v c ∗ (bigSep (Finset.Ico v 30) fun v => recvCr q v c))
variable (X Wt) in
def recvM (q : Fin 4) (u : ℕ) (c : Dev nD) : sProp 𝕄 :=
  iprop(rps q u c ∗ (bigSep (Finset.Ico u 30) fun v => recvCr q v c) ∗ slotO q (sl u) c fullShare (acc X Wt q u c))

/-- How many stores have been started once step `u` has taken in the launch before. -/
def stores (u : ℕ) : ℕ := if u ≤ 15 then 0 else u - 14

variable (X Wt) in
/-- The product carried into step `u`. -/
def carry (q : Fin 4) (c : Dev nD) : ℕ → FVec F S256x2048 .bf16
  | 0 => noneV
  | u + 1 => if u < 15 then ownProd X Wt q u c else carry q c u

variable (X Wt) in
/-- Ring `q` when step `u` starts. -/
def core (q : Fin 4) (u : ℕ) (c : Dev nD) : sProp 𝕄 :=
  iprop(recvS X Wt q u c ∗ sendS X Wt q u c ∗ credS q u c ∗ toks q u c ∗ outSt X Wt q (u - 15) c)

/-! ## Its operations -/

/-- Taking in launch `v`. -/
theorem wp_finish (q : Fin 4) {v : ℕ} (hv : v < 30) (hO : High (v + 2) O) {k : Pr F} :
    iprop(ctx X Wt K ∗ recvS X Wt q (v + 1) c ∗ outSt X Wt q (v + 1 - 15) c ∗ ow c O)
      ⊢ iprop(((recvM X Wt q (v + 1) c ∗ extra q v c ∗ outSt X Wt q (stores (v + 1)) c ∗ ow c O) -∗ WP c k Q)
        -∗ WP c (finishR c q v (carry X Wt q c (v + 1)) k) Q) := by
  rw [recvS]
  unfold recvM finishR rps
  rw [bigSep_Ico_succ_bot hv]
  iintro ⟨#HC, ⟨⟨Hp, Hp1, Hp2, Hp3⟩, Hc, Hcs⟩, Hout, Ho⟩ Hk
  iapply (wp_recv (X := X) (Wt := Wt) (K := K) q hv hO) $$ [Hp Hc Ho]
  · isplitr; · iexact HC
    isplitl [Hp]; · iexact Hp
    isplitl [Hc]; · iexact Hc
    iexact Ho
  unfold recvPay
  iintro ⟨Hp4, ⟨Hs, Hx⟩, Ho⟩
  by_cases h : v < 15
  · rw [if_pos h]
    iapply (wp_loadSlot q (sl (v + 1))) $$ Hs
    iintro Hs
    iapply (wp_loadSlot q (sl (v + 1))) $$ Hs
    iintro Hs
    iapply (wp_storeSlot q (sl (v + 1))) $$ Hs
    iintro Hs
    iapply Hk
    rw [show stores (v + 1) = v + 1 - 15 by unfold stores; rw [if_pos (by omega)]; omega, down_up,
      show acc X Wt q (v + 1) c = addV (acc X Wt q v (ups q c)) (carry X Wt q c (v + 1)) by
        rw [acc, if_pos h, carry, if_pos h]]
    iframe
  · have h16 : v - 14 < 16 := by omega
    rw [if_neg h, dif_pos hv]
    iapply (wp_reluStore (X := X) (Wt := Wt) (K := K) q (sl (v + 1)) ⟨v - 14, h16⟩ (hO.mono (Nat.zero_le _))) $$ [Hs Hout Ho]
    · rw [show 15 + (v - 14) = v + 1 by omega, show acc X Wt q (v + 1) c = acc X Wt q v (ups q c) by
        rw [acc, if_neg h], show v + 1 - 15 = v - 14 by omega]
      isplitr; · iexact HC
      iframe
    rw [show 15 + (v - 14) = v + 1 by omega, show stores (v + 1) = v - 14 + 1 by unfold stores; rw [if_neg (by omega)]; omega]
    iintro ⟨Hs, Hout, Ho⟩
    iapply Hk
    iframe

theorem sl_four (v : ℕ) : sl (v + 4) = sl v := Fin.ext (by show (v + 4) % 4 = v % 4; omega)

/-- The two halves of a slot together. -/
theorem slot_join (q s : Fin 4) (a b : FVec F S256x2048 .bf16) :
    iprop(slotO q s c fullShare.left a ∗ slotO q s c fullShare.right b) ⊢ slotO q s c fullShare a := by
  unfold slotO owns
  iintro ⟨⟨%f, %hf, H⟩, ⟨%g, %hg, H'⟩⟩
  iexists f
  isplitr; · ipureintro; exact hf
  ihave H := (persistent_entails_right pointsTo_agree) $$ [H H']
  · isplitl [H]; · iexact H
    iexact H'
  icases H with ⟨%e, H, H'⟩
  iapply (pointsTo_share (PosShare.mem_left_op_right fullShare)).mpr
  isplitl [H]; · iexact H
  iapply (show ((slotV q s).view.loc (c : Thread nD τ) ↦[(slotV q s).view.set]{fullShare.right} g : sProp 𝕄)
    ⊢ ((slotV q s).view.loc (c : Thread nD τ) ↦[(slotV q s).view.set]{fullShare.right} f) by
      rw [pointsTo_congr fun i hi => (e i (Finset.mem_inter.mpr ⟨hi, hi⟩)).1])
  iexact H'

/-- The wait for the credit of step `u`, if the step has one. -/
theorem wp_credit (q : Fin 4) {u : ℕ} (hu : u < 30) (hO : High u O) {k : Pr F} :
    iprop(ctx X Wt K ∗ credS q u c ∗ ow c O)
      ⊢ iprop(((credS q (u + 1) c ∗ ow c O) -∗ WP c k Q)
        -∗ WP c (if 3 ≤ u then .op (.semWait (csem q) ((1 : ℕ) : ℤ)) fun _ => k else k) Q) := by
  unfold credS
  by_cases h : 3 ≤ u
  · rw [if_pos h, bigSep_Ico_succ_bot (show u - 3 < 27 by omega), show u + 1 - 3 = u - 3 + 1 by omega]
    iintro ⟨#HC, ⟨Hp, Hc, Hcs⟩, Ho⟩ Hk
    iapply (wp_creditWait (X := X) (Wt := Wt) (K := K) q (show u - 3 < 27 by omega) (hO.mono (by omega))) $$ [Hp Hc Ho]
    · isplitr; · iexact HC
      iframe
    iintro ⟨Hp, Ho⟩
    iapply Hk
    iframe
  · rw [if_neg h, show u + 1 - 3 = u - 3 by omega]
    iintro ⟨#HC, Hcr, Ho⟩ Hk
    iapply Hk
    iframe

/-- The end of the launch before, and the credit for its slot. -/
theorem wp_release (q : Fin 4) {u : ℕ} (hu : u < 30) (hO : High 0 (O + dueC q c u)) {k : Pr F} :
    iprop(ctx X Wt K ∗ sendS X Wt q u c ∗ ow c (O + dueC q c u))
      ⊢ iprop(((sps q u c ∗ (bigSep (Finset.Ico u 27) fun r => credTok q r c) ∗ freeS q u c ∗ ow c O) -∗ WP c k Q)
        -∗ WP c (if 1 ≤ u then waitSend q (u - 1) (if u ≤ 27 then .op (.semSignal (Dev.tc (ups q c)) (csem q) ((1 : ℕ) : ℤ)) fun _ => k else k)
          else k) Q) := by
  unfold sendS
  rcases u with _ | v
  · rw [if_neg (by omega), sentS, freeS, show dueC q c 0 = 0 from if_neg (by omega), add_zero]
    iintro ⟨#HC, ⟨Hp, Ht, He⟩, Ho⟩ Hk
    iapply Hk
    iframe
  · rw [if_pos (by omega), sentS, freeS, Nat.add_sub_cancel]
    unfold sps
    by_cases h : v + 1 ≤ 27
    · have e : dueC q c (v + 1) = tallyAt (ccell q (ups q c)) (v + 3) 1 := if_pos ⟨by omega, h⟩
      rw [e] at hO
      rw [if_pos h, bigSep_Ico_succ_bot (show v < 27 by omega), e]
      iintro ⟨#HC, ⟨⟨Hp, Hp1, Hp2, Hp3⟩, Ht, Hs, Hc⟩, Ho⟩ Hk
      iapply (wp_waitSend (X := X) (Wt := Wt) (K := K) q (show v < 30 by omega) hO) $$ [Hp Hc Ho]
      · isplitr; · iexact HC
        iframe
      unfold sendPay
      iintro ⟨Hp4, Hs', Ho⟩
      ihave Hslot := (slot_join q (sl v) (acc X Wt q v c) (acc X Wt q v c)) $$ [Hs Hs']
      · iframe
      icases Ht with ⟨Ht, Hts⟩
      iapply (wp_creditSignal (X := X) (Wt := Wt) (K := K) (O := O) q (show v < 27 by omega)) $$ [Ht Ho]
      · isplitr; · iexact HC
        iframe
      iintro Ho
      iapply Hk
      iframe
      iexists _; iexact Hslot
    · have e : dueC q c (v + 1) = 0 := if_neg (by omega)
      rw [e, add_zero] at hO
      rw [if_neg h, ico_emp (show 27 ≤ v by omega), ico_emp (show 27 ≤ v + 1 by omega), e, add_zero]
      iintro ⟨#HC, ⟨⟨Hp, Hp1, Hp2, Hp3⟩, Ht, Hs, Hc⟩, Ho⟩ Hk
      iapply (wp_waitSend (X := X) (Wt := Wt) (K := K) q (show v < 30 by omega) hO) $$ [Hp Hc Ho]
      · isplitr; · iexact HC
        iframe
      unfold sendPay
      iintro ⟨Hp4, Hs', Ho⟩
      ihave Hslot := (slot_join q (sl v) (acc X Wt q v c) (acc X Wt q v c)) $$ [Hs Hs']
      · iframe
      iapply Hk
      iframe
      iexists _; iexact Hslot

/-- A step's own work between its launch and its release: the next product, or the first store. -/
theorem wp_work (q : Fin 4) {u : ℕ} (hu : u < 30) (hO : High 0 O) {p : PosShare TreeShare} {r : FVec F S256x2048 .bf16 → Pr F} :
    iprop(ctx X Wt K ∗ staged X Wt c ∗ slotO q (sl u) c p (acc X Wt q u c) ∗ outSt X Wt q (stores u) c ∗ ow c O)
      ⊢ iprop(((staged X Wt c ∗ slotO q (sl u) c p (acc X Wt q u c) ∗ outSt X Wt q (u + 1 - 15) c ∗ ow c O) -∗ WP c (r (carry X Wt q c (u + 1))) Q)
        -∗ WP c (if h : u < 15 then loadProd xM wM q (k0_off2 c (xWord q u)) (x_inb q ⟨u, h⟩ c) r
          else if u = 15 then reluStore c q (sl u) 0 (r (carry X Wt q c u)) else r (carry X Wt q c u)) Q) := by
  by_cases h : u < 15
  · rw [dif_pos h, show stores u = 0 from if_pos (by omega), show u + 1 - 15 = 0 by omega, carry, if_pos h, ownProd, dif_pos h]
    iintro ⟨#HC, Hst, Hs, Hout, Ho⟩ Hk
    iapply (wp_loadProd q _ (x_inb q ⟨u, h⟩ c)) $$ Hst
    iintro Hst
    iapply Hk
    iframe
  · rw [dif_neg h, carry, if_neg h]
    by_cases h' : u = 15
    · subst h'
      rw [if_pos rfl]
      iintro ⟨#HC, Hst, Hs, Hout, Ho⟩ Hk
      iapply (wp_reluStore (X := X) (Wt := Wt) (K := K) q (sl 15) 0 hO) $$ [Hs Hout Ho]
      · isplitr; · iexact HC
        isplitl [Hs]; · iexact Hs
        isplitl [Hout]; · iexact Hout
        iexact Ho
      iintro ⟨Hs, Hout, Ho⟩
      iapply Hk
      isplitl [Hst]; · iexact Hst
      isplitl [Hs]; · iexact Hs
      isplitl [Hout]; · iexact Hout
      iexact Ho
    · rw [if_neg h', show stores u = u - 14 from if_neg (by omega), show u + 1 - 15 = u - 14 by omega]
      iintro ⟨#HC, Hst, Hs, Hout, Ho⟩ Hk
      iapply Hk
      iframe

theorem sps_reached (q : Fin 4) (u : ℕ) : sps q (u - 1) c ⊢ (iprop(sps q (u - 1) c ∗ reached ER (scell q (sl u) c) (u / 4)) : sProp 𝕄) := by
  unfold sps sp
  rcases u with _ | u
  · iintro ⟨⟨H0, #R0⟩, ⟨H1, #R1⟩, H2, H3⟩
    iframe
    iframe R0
    iexact R1
  · rw [Nat.add_sub_cancel]
    iintro ⟨⟨H0, #R0⟩, ⟨H1, #R1⟩, H2, H3⟩
    iframe
    iframe R0
    isplitr <;> iexact R1

/-- A slot with room for a later launch, or kept. -/
theorem freed (q : Fin 4) (u : ℕ) : iprop(rps q u c ∗ freeS q u c) ⊢ (iprop(rps q u c ∗ freedP q u c ∗ keptU q u c) : sProp 𝕄) := by
  rcases u with _ | v
  · rw [freedP, keptU, if_neg (by omega), freeS]
    iintro ⟨H, -⟩
    iframe
    isplitr <;> iempintro
  · rw [freedP, keptU, freeS, perm]
    by_cases h : v + 3 < 30
    · rw [if_pos h, if_neg (show ¬28 ≤ v + 1 by omega), leave, show v + 3 + 1 = v + 4 by omega, sl_four]
      unfold rps rp
      rw [show v + 1 + 2 = v + 3 by omega, show v + 3 + 1 = v + 4 by omega, sl_four]
      iintro ⟨⟨H0, H1, ⟨H2, #R2⟩, H3⟩, ⟨%a, Hs⟩⟩
      iframe
      iframe R2
      iexists a; iexact Hs
    · rw [if_neg h, if_pos (show 28 ≤ v + 1 by omega)]
      iintro ⟨H, Hs⟩
      iframe

/-- Step `u`'s launch. -/
theorem wp_launch (q : Fin 4) {u : ℕ} (hu : u < 30) (hO : High (u + 1) O) {k : FVec F S256x2048 .bf16 → Pr F} :
    iprop(ctx X Wt K ∗ staged X Wt c ∗ recvM X Wt q u c ∗ sendS X Wt q u c ∗ credS q u c ∗ toks q u c ∗ outSt X Wt q (stores u) c
        ∗ perm q u (dst q c) ∗ extra q u (dst q c) ∗ ow c (O + owedR q c u))
      ⊢ iprop(((staged X Wt c ∗ core X Wt q (u + 1) c ∗ freedP q u c ∗ keptU q u c ∗ ow c (O + owedR q c (u + 1))) -∗ WP c (k (carry X Wt q c (u + 1))) Q)
        -∗ WP c (launchR xM wM c q u (carry X Wt q c u) k) Q) := by
  have h₁ : High (u + 1) (O + owedR q c (u + 1) + dueC q c u) := (hO.add (high_owedR q c (by omega))).add (high_dueC q c hu (by omega))
  have h₂ : High (u + 1) (O + owedR q c (u + 1) + dueC q c u + dueR q c u) := h₁.add (high_dueR q c hu (by omega))
  rw [owedR_peel q c hu, ← add_assoc, ← add_assoc, perm, if_pos hu, toks, bigSep_Ico_succ_bot hu]
  unfold core launchR recvM sendS
  dsimp only
  iintro ⟨#HC, Hst, ⟨Hrps, Hrcr, Hs⟩, ⟨Hsps, Hct, Hsent⟩, Hcr, ⟨⟨Ht1, Ht2⟩, Htoks⟩, Hout, Hl, Hx, Ho⟩ Hk
  iapply (wp_credit (X := X) (Wt := Wt) (K := K) q hu (h₂.mono (Nat.le_succ u))) $$ [Hcr Ho]
  · isplitr; · iexact HC
    iframe
  iintro ⟨Hcr, Ho⟩
  ihave Hsps := (sps_reached q u) $$ Hsps
  icases Hsps with ⟨Hsps, #Hr⟩
  iapply (wp_sendR (X := X) (Wt := Wt) (K := K) q hu) $$ [Hs Hl Hx Ho Ht1 Ht2]
  · isplitr; · iexact HC
    iframe
    iexact Hr
  iintro ⟨Hs, Hsc, Ho⟩
  iapply (wp_work (X := X) (Wt := Wt) (K := K) q hu (h₁.mono (Nat.zero_le _))) $$ [Hst Hs Hout Ho]
  · isplitr; · iexact HC
    iframe
  iintro ⟨Hst, Hs, Hout, Ho⟩
  iapply (wp_release (X := X) (Wt := Wt) (K := K) q hu (h₁.mono (Nat.zero_le _))) $$ [Hsps Hct Hsent Ho]
  · isplitr; · iexact HC
    unfold sendS
    iframe
  iintro ⟨Hsps, Hct, Hfree, Ho⟩
  ihave Hf := (freed q u) $$ [Hrps Hfree]
  · iframe
  icases Hf with ⟨Hrps, Hfp, Hku⟩
  iapply Hk
  rw [recvS, sentS, Nat.add_sub_cancel]
  iframe
  unfold toks
  iexact Htoks

/-- One ring's part of step `u`. -/
theorem wp_ring (q : Fin 4) {u : ℕ} (hu : u < 30) (hO : High (u + 1) O) {k : FVec F S256x2048 .bf16 → Pr F} :
    iprop(ctx X Wt K ∗ staged X Wt c ∗ core X Wt q u c ∗ perm q u (dst q c) ∗ extra q u (dst q c) ∗ ow c (O + owedR q c u))
      ⊢ iprop(((staged X Wt c ∗ core X Wt q (u + 1) c ∗ recvX q u c ∗ freedP q u c ∗ keptU q u c ∗ ow c (O + owedR q c (u + 1)))
          -∗ WP c (k (carry X Wt q c (u + 1))) Q)
        -∗ WP c (ringR xM wM c q u (carry X Wt q c u) k) Q) := by
  unfold ringR
  rcases u with _ | v
  · rw [if_neg (by omega), recvX]
    conv_lhs => rw [core, recvS]
    iintro ⟨#HC, Hst, ⟨Hrecv, Hsend, Hcr, Ht, Hout⟩, Hp, Hx, Ho⟩ Hk
    iapply (wp_launch (X := X) (Wt := Wt) (K := K) q hu hO) $$ [Hst Hrecv Hsend Hcr Ht Hout Hp Hx Ho]
    · unfold recvM
      rw [show stores 0 = 0 - 15 from rfl]
      isplitr; · iexact HC
      iframe
    iintro ⟨Hst, Hcore, Hfp, Hku, Ho⟩
    iapply Hk
    iframe
  · rw [if_pos (by omega), recvX, Nat.add_sub_cancel]
    conv_lhs => rw [core]
    iintro ⟨#HC, Hst, ⟨Hrecv, Hsend, Hcr, Ht, Hout⟩, Hp, Hx, Ho⟩ Hk
    iapply (wp_finish (X := X) (Wt := Wt) (K := K) q (show v < 30 by omega)
      ((hO.add (high_owedR q c (show v + 2 < v + 1 + 2 by omega))))) $$ [Hrecv Hout Ho]
    · isplitr; · iexact HC
      iframe
    iintro ⟨Hrecv, Hx', Hout, Ho⟩
    iapply (wp_launch (X := X) (Wt := Wt) (K := K) q hu hO) $$ [Hst Hrecv Hsend Hcr Ht Hout Hp Hx Ho]
    · isplitr; · iexact HC
      iframe
    iintro ⟨Hst, Hcore, Hfp, Hku, Ho⟩
    iapply Hk
    iframe

end Cert.KernelIdeal.Rings
-- ==== Proof.Rings.Pairs.lean ====
/-
  Opposite rings step together: each launch carries the slot that the opposite ring has freed. The steps in turn, and
  the end.
-/
module

public import proofs.«01_k».proof.Proof.Rings.Steps

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {X : Dev nD → (cc0_stg0_0 : Ref sig .tc).ty.Contents (Elt F)} {Wt : Dev nD → (cc0_stg1_0 : Ref sig .tc).ty.Contents (Elt F)}
variable {K : Dev nD × Cell → ℕ}
variable {c : Dev nD} {O : CellTallies nD τ sig ℕ} {Q : PUnit → sProp (MT nD τ sig ℕ (Elt F) ℕ UU ℕ)}

theorem fwd_opp (q : Fin 4) : fwd (opp q) = !fwd q := by revert q; decide

/-! ## Two opposite rings -/

/-- What travels with a launch of the forward ring is the slot its opposite freed in the step before. -/
theorem extra_fwd (q : Fin 4) (hq : fwd q = true) (u : ℕ) (c : Dev nD) : extra (F := F) q u (dst q c) = freedP (opp q) (u - 1) c := by
  rw [extra, if_pos hq, ups_dst]
  rcases u with _ | _ | v
  · rw [if_neg (by omega), freedP]
  · rw [if_neg (by omega), freedP]
  · rw [if_pos (by omega), show v + 1 + 1 - 1 = v + 1 by omega, freedP]

/-- What travels with a launch of the other ring is the slot the forward one freed in the same step. -/
theorem extra_bwd (q : Fin 4) (hq : fwd q = true) (u : ℕ) (c : Dev nD) : extra (F := F) (opp q) u (dst (opp q) c) = freedP q u c := by
  rw [extra, fwd_opp, hq, opp_opp, ups_dst, Bool.not_true, if_neg Bool.false_ne_true]
  rcases u with _ | v
  · rw [if_neg (by omega), freedP]
  · rw [if_pos (by omega), freedP]

/-- The leaves held for the other ring, and what the forward ring takes in, cover its launch of step `u`. -/
theorem perms_bwd (q : Fin 4) (hq : fwd q = true) (u : ℕ) (c : Dev nD) :
    iprop((bigSep (Finset.Ico u 3) fun v => perm (opp q) v (dst (opp q) c)) ∗ recvX q u c)
      ⊢ (iprop(perm (opp q) u (dst (opp q) c) ∗ bigSep (Finset.Ico (u + 1) 3) fun v => perm (opp q) v (dst (opp q) c)) : sProp 𝕄) := by
  by_cases h : u < 3
  · rw [bigSep_Ico_succ_bot h]
    iintro ⟨H, -⟩
    iexact H
  · obtain ⟨v, rfl⟩ : ∃ v, u = v + 1 := ⟨u - 1, by omega⟩
    rw [ico_emp (by omega), ico_emp (by omega), recvX, extra, if_pos hq, if_pos (by omega), dst_opp]
    iintro ⟨-, H⟩
    iframe

/-- The leaves held for the forward ring, and what the other takes in, cover its launch of step `u + 1`. -/
theorem perms_fwd (q : Fin 4) (hq : fwd q = true) (u : ℕ) (c : Dev nD) :
    iprop((bigSep (Finset.Ico (u + 1) (max (u + 1) 3)) fun v => perm q v (dst q c)) ∗ recvX (opp q) u c)
      ⊢ (bigSep (Finset.Ico (u + 1) (max (u + 1 + 1) 3)) fun v => perm q v (dst q c) : sProp 𝕄) := by
  by_cases h : u < 2
  · rw [max_eq_right (by omega), max_eq_right (by omega)]
    iintro ⟨H, -⟩
    iexact H
  · obtain ⟨v, rfl⟩ : ∃ v, u = v + 1 := ⟨u - 1, by omega⟩
    rw [max_eq_left (by omega), max_eq_left (by omega), ico_emp le_rfl, bigSep_Ico_one, recvX, extra, fwd_opp, hq, opp_opp, Bool.not_true,
      if_neg Bool.false_ne_true, if_pos (by omega), ups_opp]
    iintro ⟨-, H⟩
    iexact H

variable (X Wt) in
/-- The forward ring `q` and its opposite when step `u` starts. -/
def pairS (q : Fin 4) (u : ℕ) (c : Dev nD) : sProp 𝕄 :=
  iprop(core X Wt q u c ∗ core X Wt (opp q) u c
    ∗ (bigSep (Finset.Ico u (max (u + 1) 3)) fun v => perm q v (dst q c))
    ∗ (bigSep (Finset.Ico u 3) fun v => perm (opp q) v (dst (opp q) c))
    ∗ freedP (opp q) (u - 1) c
    ∗ (bigSep (Finset.range u) fun v => keptU q v c) ∗ (bigSep (Finset.range u) fun v => keptU (opp q) v c))

/-- Their part of step `u`. -/
theorem wp_pair (q : Fin 4) (hq : fwd q = true) {u : ℕ} (hu : u < 30) (hO : High (u + 1) O)
    {k : FVec F S256x2048 .bf16 × FVec F S256x2048 .bf16 → Pr F} :
    iprop(ctx X Wt K ∗ staged X Wt c ∗ pairS X Wt q u c ∗ ow c (O + owedR q c u + owedR (opp q) c u))
      ⊢ iprop(((staged X Wt c ∗ pairS X Wt q (u + 1) c ∗ ow c (O + owedR q c (u + 1) + owedR (opp q) c (u + 1)))
          -∗ WP c (k (carry X Wt q c (u + 1), carry X Wt (opp q) c (u + 1))) Q)
        -∗ WP c (pairR xM wM c q (opp q) u (carry X Wt q c u, carry X Wt (opp q) c u) k) Q) := by
  unfold pairR pairS
  dsimp only
  rw [bigSep_Ico_succ_bot (show u < max (u + 1) 3 by omega), add_right_comm O (owedR q c u) (owedR (opp q) c u)]
  iintro ⟨#HC, Hst, ⟨Hq, Hq', ⟨Hp, Hps⟩, Hps', Hfr, Hk1, Hk2⟩, Ho⟩ Hk
  iapply (wp_ring (X := X) (Wt := Wt) (K := K) q hu (hO.add (high_owedR (opp q) c (show u + 1 < u + 2 by omega)))) $$ [Hst Hq Hp Hfr Ho]
  · rw [extra_fwd q hq]
    isplitr; · iexact HC
    iframe
  rw [add_right_comm O (owedR (opp q) c u) (owedR q c (u + 1))]
  iintro ⟨Hst, Hq, Hx, Hfp, Hku, Ho⟩
  ihave Hps' := (perms_bwd q hq u c) $$ [Hps' Hx]
  · iframe
  icases Hps' with ⟨Hp', Hps'⟩
  iapply (wp_ring (X := X) (Wt := Wt) (K := K) (opp q) hu (hO.add (high_owedR q c (show u + 1 < u + 1 + 2 by omega)))) $$ [Hst Hq' Hp' Hfp Ho]
  · rw [extra_bwd q hq]
    isplitr; · iexact HC
    iframe
  iintro ⟨Hst, Hq', Hx, Hfr, Hku', Ho⟩
  ihave Hps := (perms_fwd q hq u c) $$ [Hps Hx]
  · iframe
  iapply Hk
  rw [bigSep_range_succ, bigSep_range_succ, Nat.add_sub_cancel]
  iframe

/-! ## All the steps -/

/-- What device `c` owes from step `u` on. -/
def owedAll (c : Dev nD) (u : ℕ) : CellTallies nD τ sig ℕ := owedR 1 c u + owedR 3 c u + owedR 0 c u + owedR 2 c u

theorem wp_steps : ∀ (n u : ℕ), n + u = 30 → ∀ {k : FVec F S256x2048 .bf16 × FVec F S256x2048 .bf16 → FVec F S256x2048 .bf16 × FVec F S256x2048 .bf16 → Pr F},
    iprop(ctx X Wt K ∗ staged X Wt c ∗ pairS X Wt 0 u c ∗ pairS X Wt 1 u c ∗ ow c (owedAll c u))
      ⊢ iprop(((staged X Wt c ∗ pairS X Wt 0 30 c ∗ pairS X Wt 1 30 c ∗ ow c 0)
          -∗ WP c (k (carry X Wt 0 c 30, carry X Wt 2 c 30) (carry X Wt 1 c 30, carry X Wt 3 c 30)) Q)
        -∗ WP c (stepsR xM wM c n u (carry X Wt 0 c u, carry X Wt 2 c u) (carry X Wt 1 c u, carry X Wt 3 c u) k) Q)
  | 0, u, h, k => by
    obtain rfl : u = 30 := by omega
    rw [stepsR, owedAll, owedR_end, owedR_end, owedR_end, owedR_end, add_zero, add_zero, add_zero]
    iintro ⟨#HC, Hst, H0, H1, Ho⟩ Hk
    iapply Hk
    iframe
  | n + 1, u, h, k => by
    have hu : u < 30 := by omega
    rw [stepsR, owedAll]
    iintro ⟨#HC, Hst, H0, H1, Ho⟩ Hk
    iapply (wp_pair (X := X) (Wt := Wt) (K := K) 0 rfl hu
      (O := owedR 1 c u + owedR 3 c u) ((high_owedR 1 c (by omega)).add (high_owedR 3 c (by omega)))) $$ [Hst H0 Ho]
    · isplitr; · iexact HC
      isplitl [Hst]; · iexact Hst
      isplitl [H0]; · iexact H0
      iexact Ho
    rw [show owedR 1 c u + owedR 3 c u + owedR 0 c (u + 1) + owedR (opp 0) c (u + 1)
      = owedR 0 c (u + 1) + owedR 2 c (u + 1) + owedR 1 c u + owedR 3 c u by
        rw [add_assoc (owedR 1 c u + owedR 3 c u), add_comm (owedR 1 c u + owedR 3 c u), ← add_assoc]; rfl]
    iintro ⟨Hst, H0, Ho⟩
    iapply (wp_pair (X := X) (Wt := Wt) (K := K) 1 rfl hu
      (O := owedR 0 c (u + 1) + owedR 2 c (u + 1)) ((high_owedR 0 c (by omega)).add (high_owedR 2 c (by omega)))) $$ [Hst H1 Ho]
    · isplitr; · iexact HC
      isplitl [Hst]; · iexact Hst
      isplitl [H1]; · iexact H1
      iexact Ho
    rw [show owedR 0 c (u + 1) + owedR 2 c (u + 1) + owedR 1 c (u + 1) + owedR (opp 1) c (u + 1)
      = owedAll c (u + 1) by
        unfold owedAll
        rw [add_assoc (owedR 0 c (u + 1) + owedR 2 c (u + 1)), add_comm (owedR 0 c (u + 1) + owedR 2 c (u + 1)), ← add_assoc]; rfl]
    iintro ⟨Hst, H1, Ho⟩
    iapply (wp_steps n (u + 1) (by omega)) $$ [Hst H0 H1 Ho]
    · isplitr; · iexact HC
      iframe
    iexact Hk

/-! ## The end of a ring -/

variable (X Wt) in
/-- A ring's stores when all are done. -/
def outEnd (q : Fin 4) (c : Dev nD) : sProp 𝕄 :=
  iprop((bigSep (Finset.range 16) fun n => outO q n c (outVal X Wt q n c)) ∗ op q 16 c ∗ op q 17 c ∗ stageO q 0 c ∗ stageO q 1 c)

/-- The waits at the end of a ring. -/
theorem wp_last (q : Fin 4) (hO : High 0 O) {k : Pr F} :
    iprop(ctx X Wt K ∗ sendS X Wt q 30 c ∗ outSt X Wt q 16 c ∗ ow c O)
      ⊢ iprop(((sps q 30 c ∗ (∃ a, slotO q 1 c fullShare a) ∗ outEnd X Wt q c ∗ ow c O) -∗ WP c k Q) -∗ WP c (lastR c q k) Q) := by
  unfold sendS outSt lastR outEnd sps
  rw [sentS, show 16 - 2 = 14 from rfl, bigSep_Ico_succ_bot (show 14 < 16 by omega), bigSep_Ico_one, show 30 - 1 = 29 from rfl,
    bigSep_range_succ 15, bigSep_range_succ 14]
  iintro ⟨#HC, ⟨⟨Hp0, Hp1, Hp2, Hp3⟩, -, Hs, Hc⟩, ⟨-, Hd, ⟨Hc14, Hc15⟩, Ho0, Ho1, -⟩, Ho⟩ Hk
  iapply (wp_waitSend (X := X) (Wt := Wt) (K := K) q (show 29 < 30 by omega) hO) $$ [Hp0 Hc Ho]
  · isplitr; · iexact HC
    iframe
  unfold sendPay
  iintro ⟨Hp4, Hs', Ho⟩
  ihave Hs := (slot_join q (sl 29) (acc X Wt q 29 c) (acc X Wt q 29 c)) $$ [Hs Hs']
  · iframe
  iapply (wp_waitOut (X := X) (Wt := Wt) (K := K) q 14 hO) $$ [Ho0 Hc14 Ho]
  · isplitr; · iexact HC
    isplitl [Ho0]; · iexact Ho0
    isplitl [Hc14]; · iexact Hc14
    iexact Ho
  unfold outPay
  iintro ⟨Ho0, ⟨Hd14, Hs14⟩, Ho⟩
  iapply (wp_waitOut (X := X) (Wt := Wt) (K := K) q 15 hO) $$ [Ho1 Hc15 Ho]
  · isplitr; · iexact HC
    isplitl [Ho1]; · iexact Ho1
    isplitl [Hc15]; · iexact Hc15
    iexact Ho
  unfold outPay
  iintro ⟨Ho1, ⟨Hd15, Hs15⟩, Ho⟩
  iapply Hk
  isplitl [Hp1 Hp2 Hp3 Hp4]
  · isplitl [Hp1]; · iexact Hp1
    isplitl [Hp2]; · iexact Hp2
    isplitl [Hp3]; · iexact Hp3
    iexact Hp4
  isplitl [Hs]; · iexists _; iexact Hs
  isplitr [Ho]
  · isplitl [Hd15 Hd14 Hd]
    · isplitl [Hd15]; · iexact Hd15
      isplitl [Hd14]; · iexact Hd14
      iexact Hd
    isplitl [Ho0]; · iexact Ho0
    isplitl [Ho1]; · iexact Ho1
    isplitl [Hs14]; · iexact Hs14
    iexact Hs15
  iexact Ho

/-- The four slots of ring `q`, with any contents. -/
def slots4 (q : Fin 4) (c : Dev nD) : sProp 𝕄 :=
  iprop((∃ a, slotO q 0 c fullShare a) ∗ (∃ a, slotO q 1 c fullShare a) ∗ (∃ a, slotO q 2 c fullShare a) ∗ (∃ a, slotO q 3 c fullShare a))

variable (X Wt) in
/-- Ring `q` at the end: every semaphore past its last round, and every buffer whole again. -/
def endR (q : Fin 4) (c : Dev nD) : sProp 𝕄 :=
  iprop(rps q 30 c ∗ sps q 30 c ∗ cpos q 27 c
    ∗ slots4 q c ∗ outEnd X Wt q c)

variable (X Wt) in
/-- Ring `q` when its last launch has been taken in. -/
def lastS (q : Fin 4) (c : Dev nD) : sProp 𝕄 :=
  iprop(recvM X Wt q 30 c ∗ sendS X Wt q 30 c ∗ credS q 30 c ∗ outSt X Wt q 16 c ∗ bigSep (Finset.range 30) fun v => keptU q v c)

theorem wp_final (q : Fin 4) {k : Pr F} :
    iprop(ctx X Wt K ∗ core X Wt q 30 c ∗ (bigSep (Finset.range 30) fun v => keptU q v c) ∗ ow c 0)
      ⊢ iprop(((lastS X Wt q c ∗ ow c 0) -∗ WP c k Q) -∗ WP c (finishR c q 29 (carry X Wt q c 30) k) Q) := by
  unfold core lastS
  iintro ⟨#HC, ⟨Hrecv, Hsend, Hcr, -, Hout⟩, Hku, Ho⟩ Hk
  iapply (wp_finish (X := X) (Wt := Wt) (K := K) q (show 29 < 30 by omega) (high_zero _)) $$ [Hrecv Hout Ho]
  · isplitr; · iexact HC
    isplitl [Hrecv]; · iexact Hrecv
    isplitl [Hout]; · iexact Hout
    iexact Ho
  iintro ⟨Hrecv, -, Hout, Ho⟩
  iapply Hk
  isplitr [Ho]
  · isplitl [Hrecv]; · iexact Hrecv
    isplitl [Hsend]; · iexact Hsend
    isplitl [Hcr]; · iexact Hcr
    isplitl [Hout]; · iexact Hout
    iexact Hku
  iexact Ho

theorem wp_end (q : Fin 4) {k : Pr F} :
    iprop(ctx X Wt K ∗ lastS X Wt q c ∗ ow c 0) ⊢ iprop(((endR X Wt q c ∗ ow c 0) -∗ WP c k Q) -∗ WP c (lastR c q k) Q) := by
  unfold lastS endR recvM credS slots4
  rw [bigSep_range_succ, bigSep_range_succ]
  unfold keptU
  rw [if_pos (show 28 ≤ 29 by omega), if_pos (show 28 ≤ 28 by omega), freeS, freeS]
  iintro ⟨#HC, ⟨⟨Hrps, -, Hs2⟩, Hsend, ⟨Hcp, -⟩, Hout, Hs0, Hs3, -⟩, Ho⟩ Hk
  iapply (wp_last (X := X) (Wt := Wt) (K := K) q (high_zero _)) $$ [Hsend Hout Ho]
  · isplitr; · iexact HC
    iframe
  iintro ⟨Hsps, Hs1, Hend, Ho⟩
  iapply Hk
  isplitr [Ho]
  · isplitl [Hrps]; · iexact Hrps
    isplitl [Hsps]; · iexact Hsps
    isplitl [Hcp]; · iexact Hcp
    isplitr [Hend]
    · isplitl [Hs0]; · iexact Hs0
      isplitl [Hs1]; · iexact Hs1
      isplitl [Hs2]; · iexists _; iexact Hs2
      iexact Hs3
    iexact Hend
  iexact Ho

end Cert.KernelIdeal.Rings
-- ==== Proof.Rings.Body.lean ====
/-
  The body of the kernel: the barrier, the first blocks, the steps and the ends, from what a device holds at the start
  to what it holds at the end.
-/
module

public import proofs.«01_k».proof.Proof.Rings.Pairs

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {X : Dev nD → (cc0_stg0_0 : Ref sig .tc).ty.Contents (Elt F)} {Wt : Dev nD → (cc0_stg1_0 : Ref sig .tc).ty.Contents (Elt F)}
variable {K : Dev nD × Cell → ℕ}
variable {c : Dev nD} {O : CellTallies nD τ sig ℕ} {Q : PUnit → sProp (MT nD τ sig ℕ (Elt F) ℕ UU ℕ)}

/-- Ring `q` before the body: the semaphores at their first rounds, the tokens of its launches, credits and stores, the
    credits for what it will wait for, and its buffers. -/
def startR (q : Fin 4) (c : Dev nD) : sProp 𝕄 :=
  iprop(rps q 0 c ∗ sps q 0 c ∗ cpos q 0 c ∗ toks q 0 c ∗ (bigSep (Finset.Ico 0 27) fun r => credTok q r c)
    ∗ (bigSep (Finset.Ico 0 30) fun v => recvCr q v c) ∗ (bigSep (Finset.Ico 0 27) fun r => creditCr q r c)
    ∗ (bigSep (Finset.Ico 0 16) fun n => outTodo q n c) ∗ op q 0 c ∗ op q 1 c ∗ (stageO q 0 c ∗ stageO q 1 c) ∗ slots4 q c)

/-- The same without the slots. -/
def startC (q : Fin 4) (c : Dev nD) : sProp 𝕄 :=
  iprop(rps q 0 c ∗ sps q 0 c ∗ cpos q 0 c ∗ toks q 0 c ∗ (bigSep (Finset.Ico 0 27) fun r => credTok q r c)
    ∗ (bigSep (Finset.Ico 0 30) fun v => recvCr q v c) ∗ (bigSep (Finset.Ico 0 27) fun r => creditCr q r c)
    ∗ (bigSep (Finset.Ico 0 16) fun n => outTodo q n c) ∗ op q 0 c ∗ op q 1 c ∗ (stageO q 0 c ∗ stageO q 1 c))

/-- Slots 1, 2 and 3 are leave for the first three launches into the device. -/
theorem start_split (q : Fin 4) : iprop(ctx X Wt K ∗ startR q c) ⊢ iprop(startC q c ∗ perm3 q c ∗ ∃ a, slotO q 0 c fullShare a) := by
  unfold startR startC perm3 leave slots4
  iintro ⟨#HC, H1, H2, H3, H4, H5, H6, H7, H8, H9, H10, H11, Hs0, Hs1, Hs2, Hs3⟩
  isplitl [H1 H2 H3 H4 H5 H6 H7 H8 H9 H10 H11]
  · iframe
  isplitr [Hs0]
  · isplitl [Hs1]
    · isplitl; · iexact Hs1
      iapply (ctx_reached X Wt K c (some (q, .recv (sl 1)))); iexact HC
    isplitl [Hs2]
    · isplitl; · iexact Hs2
      iapply (ctx_reached X Wt K c (some (q, .recv (sl 2)))); iexact HC
    isplitl; · iexact Hs3
    iapply (ctx_reached X Wt K c (some (q, .recv (sl 3)))); iexact HC
  iexact Hs0

theorem start_core (q : Fin 4) : iprop(startC q c ∗ slotO q 0 c fullShare (acc X Wt q 0 c)) ⊢ core X Wt q 0 c := by
  unfold startC core sendS credS outSt
  rw [recvS, sentS]
  iintro ⟨⟨H1, H2, H3, H4, H5, H6, H7, H8, H9, H10, H11, H12⟩, Hs⟩
  isplitl [H1 H6 Hs]
  · isplitl [H1]; · iexact H1
    isplitl [H6]; · iexact H6
    iexact Hs
  isplitl [H2 H5]
  · isplitl [H2]; · iexact H2
    isplitl [H5]; · iexact H5
    iempintro
  isplitl [H3 H7]
  · isplitl [H3]; · iexact H3
    iexact H7
  isplitl [H4]; · iexact H4
  rw [show 0 - 15 - 2 = 0 from rfl, Finset.range_zero, bigSep_empty, ico_emp le_rfl,
    bigSep_Ico_succ_bot (show 0 < 2 by omega), bigSep_Ico_one]
  isplitl [H8]; · iexact H8
  isplitr; · iempintro
  isplitr; · iempintro
  isplitl [H9]; · iexact H9
  isplitl [H10]; · iexact H10
  isplitl [H11]; · iexact H11
  iexact H12

/-- The device's own block into slot 0. -/
theorem wp_init (q : Fin 4) {k : Pr F} :
    iprop(staged X Wt c ∗ startC q c ∗ ∃ a, slotO q 0 c fullShare a)
      ⊢ iprop(((staged X Wt c ∗ core X Wt q 0 c) -∗ WP c k Q) -∗ WP c (initR xM wM c q k) Q) := by
  unfold initR
  iintro ⟨Hst, Hc, ⟨%a, Hs⟩⟩ Hk
  iapply (wp_loadProd q (k0_off1 c) (k0_off1_inb c)) $$ Hst
  iintro Hst
  iapply (wp_loadSlot q 0) $$ Hs
  iintro Hs
  iapply (wp_storeSlot q 0) $$ Hs
  iintro Hs
  iapply Hk
  isplitl [Hst]; · iexact Hst
  iapply (start_core (X := X) (Wt := Wt) q)
  isplitl [Hc]; · iexact Hc
  rw [acc]
  iexact Hs

/-! ## The barrier -/

/-- A signal of the barrier, number `n` of the two the neighbour waits for. -/
theorem wp_barSignal (c' : Dev nD) (n : ℕ) (hn : n < 2) {k : PUnit → Pr F} :
    iprop(ctx X Wt K ∗ ow c (O + tallyAt (bcell c') 1 1) ∗ dutyTok ER (bcell c') 0 n ∗ kPayload X Wt c' none 0 n)
      ⊢ iprop((ow c O -∗ WP c (k ⟨⟩) Q) -∗ WP c (.op (.semSignal (Dev.tc c') bsem ((1 : ℕ) : ℤ)) k) Q) := by
  unfold ow
  iintro ⟨#HC, ⟨%W, Ho⟩, Ht, Hp⟩ Hk
  iapply (Rounds.wp_signal 𝒱₀ ER (Rd X Wt) (c : Thread nD τ) none (dst := (c' : Thread nD τ)) (κ := K (c', none)) (d := n)
      (by rw [bar_duties X Wt c']; rcases (by omega : n = 0 ∨ n = 1) with rfl | rfl <;> decide) (bar_amount X Wt c' 0 n) 1 O rfl) $$ [Ht Ho Hp]
  · isplitr; · iapply (ctx_inv X Wt K c' none); iexact HC
    isplitl [Ho]; · iexact Ho
    isplitl [Ht]; · iexact Ht
    isplitl [Hp]
    · rw [show (Rd X Wt).payload ((c' : Thread nD τ), .reg bsem) 0 n = kPayload X Wt c' none 0 n from payload_cell X Wt c' none 0 n]
      iexact Hp
    iapply (ctx_reached X Wt K c' none); iexact HC
  iintro Ho
  iapply Hk
  iexists W; iexact Ho

theorem bigSep_two (A : ℕ → sProp 𝕄) : bigSep ({0, 1} : Finset ℕ) A = iprop(A 0 ∗ A 1) := by
  rw [bigSep_insert (by decide), bigSep_singleton]; rfl

/-- The barrier's wait: both neighbours have given leave. -/
theorem wp_barWait (hO : High 1 O) {k : PUnit → Pr F} :
    iprop(ctx X Wt K ∗ atPos ER (bcell c) 0 ∅ 0 ∗ cred (tallyAt (bcell c) 1 2) ∗ ow c O)
      ⊢ iprop(((atPos ER (bcell c) 1 ∅ 0 ∗ kPayload X Wt c none 0 0 ∗ kPayload X Wt c none 0 1 ∗ ow c O) -∗ WP c (k ⟨⟩) Q)
        -∗ WP c (.op (.semWait bsem ((2 : ℕ) : ℤ)) k) Q) := by
  unfold ow
  iintro ⟨#HC, Hp, Hc, ⟨%W, Ho⟩⟩ Hk
  iapply (Rounds.wp_wait_rest_token 𝒱₀ ER (Rd X Wt) (c : Thread nD τ) none (κ := K (c, none))
      (wpE_semWait_eq 𝒱₀ (c : Thread nD τ) none Set.univ) (Set.mem_univ _) 1 (O := O) (W := W) (R := 0) (m := 0) (T := ∅)
      (by rw [bar_expect X Wt c])) $$ [Hp Hc Ho]
  · isplitr; · iapply (ctx_inv X Wt K c none); iexact HC
    isplitl [Hc]; · iexact Hc
    isplitl [Ho]; · iexact Ho
    isplitr; · iapply (ctx_mayWait X Wt K (i := 1) hO le_rfl (by omega) c (.reg bsem)); iexact HC
    iexact Hp
  rw [Finset.sdiff_empty, bar_duties, bigSep_two,
    show (Rd X Wt).payload ((c : Thread nD τ), .reg bsem) 0 0 = kPayload X Wt c none 0 0 from payload_cell X Wt c none 0 0,
    show (Rd X Wt).payload ((c : Thread nD τ), .reg bsem) 0 1 = kPayload X Wt c none 0 1 from payload_cell X Wt c none 0 1]
  iintro ⟨Ho, Hp, -, H0, H1⟩
  iapply Hk
  isplitl [Hp]; · iexact Hp
  isplitl [H0]; · iexact H0
  isplitl [H1]; · iexact H1
  iexists _; iexact Ho

/-! ## The body -/

/-- What device `c` owes when the body starts. -/
def owed₀ (c : Dev nD) : CellTallies nD τ sig ℕ := owedAll c 0 + tallyAt (bcell (right c)) 1 1 + tallyAt (bcell (left c)) 1 1

/-- The barrier's share of what device `c` has when the body starts. -/
def startB (c : Dev nD) : sProp 𝕄 :=
  iprop(atPos ER (bcell c) 0 ∅ 0 ∗ dutyTok ER (bcell (left c)) 0 1 ∗ dutyTok ER (bcell (right c)) 0 0 ∗ cred (tallyAt (bcell c) 1 2))

theorem perm3_ico (q : Fin 4) (c c' : Dev nD) (h : dst q c = c') :
    perm3 q c' ⊢ (bigSep (Finset.Ico 0 3) fun v => perm q v (dst q c) : sProp 𝕄) := by
  subst h
  rw [bigSep_Ico_succ_bot (show 0 < 3 by omega), bigSep_Ico_succ_bot (show 0 + 1 < 3 by omega), bigSep_Ico_one]
  unfold perm3 perm
  rw [if_pos (by omega), if_pos (by omega), if_pos (by omega)]

theorem pair_start (q : Fin 4) :
    iprop(core X Wt q 0 c ∗ core X Wt (opp q) 0 c ∗ perm3 q (dst q c) ∗ perm3 (opp q) (dst (opp q) c)) ⊢ pairS X Wt q 0 c := by
  unfold pairS
  iintro ⟨Hq, Hq', Hp, Hp'⟩
  isplitl [Hq]; · iexact Hq
  isplitl [Hq']; · iexact Hq'
  isplitl [Hp]; · iapply (perm3_ico q c _ rfl); iexact Hp
  isplitl [Hp']; · iapply (perm3_ico (opp q) c _ rfl); iexact Hp'
  isplitr; · rw [freedP]; iempintro
  rw [Finset.range_zero, bigSep_empty, bigSep_empty]
  isplitr <;> iempintro

/-- A device's reading of its own number. -/
theorem wp_device (k : Dev nD → Prog (TpuEff nD τ sig (Elt F) Λ₀ .tc) PUnit) :
    WP c (.op .deviceId k) Q = WP c (k c) Q := wp_deviceId ..

/-- The body: from the rings as they are at the start to the rings as they are at the end. -/
theorem wp_body :
    iprop(ctx X Wt K ∗ staged X Wt c ∗ startB c ∗ startR 0 c ∗ startR 1 c ∗ startR 2 c ∗ startR 3 c ∗ ow c (owed₀ c))
      ⊢ iprop(((staged X Wt c ∗ atPos ER (bcell c) 1 ∅ 0 ∗ endR X Wt 0 c ∗ endR X Wt 1 c ∗ endR X Wt 2 c ∗ endR X Wt 3 c ∗ ow c 0) -∗ WP c (.ret ⟨⟩) Q)
        -∗ WP c (bodyR xM wM) Q) := by
  unfold startB bodyR owed₀
  rw [wp_device]
  iintro ⟨#HC, Hst, ⟨Hb, Htl, Htr, Hcb⟩, H0, H1, H2, H3, Ho⟩ Hk
  ihave H0 := (start_split (X := X) (Wt := Wt) (K := K) 0) $$ [H0]
  · isplitr; · iexact HC
    iexact H0
  ihave H1 := (start_split (X := X) (Wt := Wt) (K := K) 1) $$ [H1]
  · isplitr; · iexact HC
    iexact H1
  ihave H2 := (start_split (X := X) (Wt := Wt) (K := K) 2) $$ [H2]
  · isplitr; · iexact HC
    iexact H2
  ihave H3 := (start_split (X := X) (Wt := Wt) (K := K) 3) $$ [H3]
  · isplitr; · iexact HC
    iexact H3
  icases H0 with ⟨H0, Hp0, Hs0⟩
  icases H1 with ⟨H1, Hp1, Hs1⟩
  icases H2 with ⟨H2, Hp2, Hs2⟩
  icases H3 with ⟨H3, Hp3, Hs3⟩
  iapply (wp_barSignal (X := X) (Wt := Wt) (K := K) (left c) 1 (by omega)) $$ [Ho Htl Hp0 Hp1]
  · isplitr; · iexact HC
    isplitl [Ho]; · iexact Ho
    isplitl [Htl]; · iexact Htl
    dsimp only [kPayload]
    rw [if_neg (by omega), right_left]
    isplitl [Hp0]; · iexact Hp0
    iexact Hp1
  iintro Ho
  iapply (wp_barSignal (X := X) (Wt := Wt) (K := K) (right c) 0 (by omega)) $$ [Ho Htr Hp2 Hp3]
  · isplitr; · iexact HC
    isplitl [Ho]; · iexact Ho
    isplitl [Htr]; · iexact Htr
    dsimp only [kPayload]
    rw [if_pos rfl, left_right]
    isplitl [Hp2]; · iexact Hp2
    iexact Hp3
  iintro Ho
  have hO : High 1 (owedAll c 0) := (((high_owedR 1 c (by omega)).add (high_owedR 3 c (by omega))).add (high_owedR 0 c (by omega))).add (high_owedR 2 c (by omega))
  iapply (wp_barWait (X := X) (Wt := Wt) (K := K) hO) $$ [Hb Hcb Ho]
  · isplitr; · iexact HC
    iframe
  dsimp only [kPayload]
  rw [if_pos rfl, if_neg (by omega)]
  iintro ⟨Hb, ⟨Hp2, Hp3⟩, ⟨Hp0, Hp1⟩, Ho⟩
  iapply (wp_init (X := X) (Wt := Wt) 0) $$ [Hst H0 Hs0]
  · iframe
  iintro ⟨Hst, H0⟩
  iapply (wp_init (X := X) (Wt := Wt) 1) $$ [Hst H1 Hs1]
  · iframe
  iintro ⟨Hst, H1⟩
  iapply (wp_init (X := X) (Wt := Wt) 2) $$ [Hst H2 Hs2]
  · iframe
  iintro ⟨Hst, H2⟩
  iapply (wp_init (X := X) (Wt := Wt) 3) $$ [Hst H3 Hs3]
  · iframe
  iintro ⟨Hst, H3⟩
  iapply (wp_steps (X := X) (Wt := Wt) (K := K) 30 0 rfl) $$ [Hst H0 H1 H2 H3 Hp0 Hp1 Hp2 Hp3 Ho]
  · isplitr; · iexact HC
    isplitl [Hst]; · iexact Hst
    isplitl [H0 H2 Hp0 Hp2]
    · iapply (pair_start (X := X) (Wt := Wt) 0)
      isplitl [H0]; · iexact H0
      isplitl [H2]; · iexact H2
      isplitl [Hp0]; · iexact Hp0
      iexact Hp2
    isplitl [H1 H3 Hp1 Hp3]
    · iapply (pair_start (X := X) (Wt := Wt) 1)
      isplitl [H1]; · iexact H1
      isplitl [H3]; · iexact H3
      isplitl [Hp1]; · iexact Hp1
      iexact Hp3
    iexact Ho
  unfold pairS
  iintro ⟨Hst, ⟨H0, H2, -, -, -, Hk0, Hk2⟩, ⟨H1, H3, -, -, -, Hk1, Hk3⟩, Ho⟩
  iapply (wp_final (X := X) (Wt := Wt) (K := K) 0) $$ [H0 Hk0 Ho]
  · isplitr; · iexact HC
    iframe
  iintro ⟨H0, Ho⟩
  iapply (wp_final (X := X) (Wt := Wt) (K := K) 2) $$ [H2 Hk2 Ho]
  · isplitr; · iexact HC
    isplitl [H2]; · iexact H2
    isplitl [Hk2]; · iexact Hk2
    iexact Ho
  iintro ⟨H2, Ho⟩
  iapply (wp_final (X := X) (Wt := Wt) (K := K) 1) $$ [H1 Hk1 Ho]
  · isplitr; · iexact HC
    iframe
  iintro ⟨H1, Ho⟩
  iapply (wp_final (X := X) (Wt := Wt) (K := K) 3) $$ [H3 Hk3 Ho]
  · isplitr; · iexact HC
    isplitl [H3]; · iexact H3
    isplitl [Hk3]; · iexact Hk3
    iexact Ho
  iintro ⟨H3, Ho⟩
  iapply (wp_end (X := X) (Wt := Wt) (K := K) 0) $$ [H0 Ho]
  · isplitr; · iexact HC
    iframe
  iintro ⟨H0, Ho⟩
  iapply (wp_end (X := X) (Wt := Wt) (K := K) 1) $$ [H1 Ho]
  · isplitr; · iexact HC
    iframe
  iintro ⟨H1, Ho⟩
  iapply (wp_end (X := X) (Wt := Wt) (K := K) 2) $$ [H2 Ho]
  · isplitr; · iexact HC
    iframe
  iintro ⟨H2, Ho⟩
  iapply (wp_end (X := X) (Wt := Wt) (K := K) 3) $$ [H3 Ho]
  · isplitr; · iexact HC
    iframe
  iintro ⟨H3, Ho⟩
  iapply Hk
  iframe

end Cert.KernelIdeal.Rings
-- ==== Proof.Rings.Ends.lean ====
/-
  The two ends of a ring: its buffers split into slots and joined again, the result split into the pieces the stores fill
  and joined again, and its semaphores closed.
-/
module

public import proofs.«01_k».proof.Proof.Rings.Body
public import Idealize.ShloMosaic.Lib.Ring

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring
open Cert.KernelIdeal.Gen

variable {F : FTy → Type} [FloatOps F]

local notation "𝕄" => MT nD τ sig ℕ (Elt F) ℕ UU ℕ

variable {X : Dev nD → (cc0_stg0_0 : Ref sig .tc).ty.Contents (Elt F)} {Wt : Dev nD → (cc0_stg1_0 : Ref sig .tc).ty.Contents (Elt F)}
variable {K : Dev nD × Cell → ℕ}
variable {c : Dev nD} {O : CellTallies nD τ sig ℕ} {Q : PUnit → sProp (MT nD τ sig ℕ (Elt F) ℕ UU ℕ)}

/-! ## Buffers and slots -/

section Parts

variable {B : Type} [Fintype B] [DecidableEq B] {sp : Space} {sh : Shape} {e : EltTy} (M : Memref sig .tc sp sh e) (R : B → Rect sh)

/-- Rectangles that are disjoint are disjoint through a view. -/
theorem parts_disjoint (h : ∀ b b', b ≠ b' → Disjoint (R b).set (R b').set) (b b' : B) (hb : b ≠ b') :
    Disjoint (M.view.slice (R b)).set (M.view.slice (R b')).set := by
  rw [View.set_slice, View.set_slice, Finset.disjoint_map]
  exact h b b' hb

/-- Rectangles that cover a shape cover a whole buffer. -/
theorem parts_cover (hM : M.view.set = Finset.univ) (h : Finset.univ.biUnion (fun b => (R b).set) = Finset.univ) :
    Finset.biUnion (β := M.view.ty.Idx) Finset.univ (fun b => (M.view.slice (R b)).set) = Finset.univ := by
  refine Finset.eq_univ_iff_forall.mpr fun i => ?_
  have hi : i ∈ M.view.set := by rw [hM]; exact Finset.mem_univ i
  obtain ⟨j, -, rfl⟩ := Finset.mem_map.mp hi
  have hj : j ∈ Finset.univ.biUnion (fun b => (R b).set) := by rw [h]; exact Finset.mem_univ j
  obtain ⟨b, hb, hj⟩ := Finset.mem_biUnion.mp hj
  refine Finset.mem_biUnion.mpr ⟨b, hb, ?_⟩
  rw [View.set_slice]
  exact Finset.mem_map_of_mem _ hj

end Parts

theorem comm_set (q : Fin 4) : (comm q).view.set = Finset.univ := by
  fin_cases q <;> exact View.set_whole _
theorem stage_set (q : Fin 4) : (stage q).view.set = Finset.univ := by
  fin_cases q <;> exact View.set_whole _

theorem slot_set (q s : Fin 4) : (slotV q s).view.set = ((comm q).view.slice (slotR s)).set := slotOf_set _ _ _
theorem stageV_set (q : Fin 4) (t : Fin 2) : (stageV q t).view.set = ((stage q).view.slice (stageR t)).set := slotOf_set _ _ _

theorem slot_disjoint (q s s' : Fin 4) (h : s ≠ s') : Disjoint (slotV q s).view.set (slotV q s').view.set := by
  rw [slot_set, slot_set]
  exact parts_disjoint (comm q) slotR (lead_disjoint (NB := 4) (s := S4x256x2048) 0 1 (fun s => ![s.val, 0, 0]) _ slot_inb
    (fun s => (Nat.one_mul _).symm) rfl) s s' h
theorem slot_cover (q : Fin 4) : Finset.biUnion (β := (comm q).view.ty.Idx) Finset.univ (fun s => (slotV q s).view.set) = Finset.univ := by
  rw [show (fun s => ((slotV q s).view.set : Finset (comm q).view.ty.Idx)) = fun s => ((comm q).view.slice (slotR s)).set from funext (slot_set q)]
  exact parts_cover (comm q) slotR (comm_set q) (lead_cover (NB := 4) (s := S4x256x2048) 0 1 (fun s => ![s.val, 0, 0]) _ slot_inb
    (fun s => (Nat.one_mul _).symm) (by decide) rfl (by decide) rfl)
theorem stage_disjoint (q : Fin 4) (s s' : Fin 2) (h : s ≠ s') : Disjoint (stageV q s).view.set (stageV q s').view.set := by
  rw [stageV_set, stageV_set]
  exact parts_disjoint (stage q) stageR (lead_disjoint (NB := 2) (s := S2x256x2048) 0 1 (fun s => ![s.val, 0, 0]) _ stage_inb
    (fun s => (Nat.one_mul _).symm) rfl) s s' h
theorem stage_cover (q : Fin 4) : Finset.biUnion (β := (stage q).view.ty.Idx) Finset.univ (fun s => (stageV q s).view.set) = Finset.univ := by
  rw [show (fun s => ((stageV q s).view.set : Finset (stage q).view.ty.Idx)) = fun s => ((stage q).view.slice (stageR s)).set from funext (stageV_set q)]
  exact parts_cover (stage q) stageR (stage_set q) (lead_cover (NB := 2) (s := S2x256x2048) 0 1 (fun s => ![s.val, 0, 0]) _ stage_inb
    (fun s => (Nat.one_mul _).symm) (by decide) rfl (by decide) rfl)

/-- Ring `q`'s buffer of device `c`, whole, and its staging buffer. -/
def commO (q : Fin 4) (c : Dev nD) : sProp 𝕄 :=
  iprop(∃ f : Buf (Elt F) ((comm q).view.loc (c : Thread nD τ)), ((comm q).view.loc (c : Thread nD τ)) ↦{fullShare} f)
def stagesO (q : Fin 4) (c : Dev nD) : sProp 𝕄 :=
  iprop(∃ f : Buf (Elt F) ((stage q).view.loc (c : Thread nD τ)), ((stage q).view.loc (c : Thread nD τ)) ↦{fullShare} f)

theorem slots4_eq (q : Fin 4) : (slots4 q c : sProp 𝕄) = bigSep Finset.univ fun s : Fin 4 => iprop(∃ a, slotO q s c fullShare a) := by
  rw [bigSep_univ_eq_bigSepL [0, 1, 2, 3] (by decide) (by decide)]; rfl
theorem stages2_eq (q : Fin 4) : (iprop(stageO q 0 c ∗ stageO q 1 c) : sProp 𝕄) = bigSep Finset.univ fun s : Fin 2 => stageO q s c := by
  rw [bigSep_univ_eq_bigSepL [0, 1] (by decide) (by decide)]; rfl

theorem slot_any (q s : Fin 4) (f : Buf (Elt F) ((comm q).view.loc (c : Thread nD τ))) :
    ((comm q).view.loc (c : Thread nD τ) ↦[(slotV q s).view.set]{fullShare} f : sProp 𝕄) ⊢ iprop(∃ a, slotO q s c fullShare a) := by
  unfold slotO
  iintro H
  iexists _
  iapply (owns_intro (c : Thread nD τ) (slotV q s) fullShare f)
  iexact H
theorem slot_some (q s : Fin 4) :
    (iprop(∃ a, slotO q s c fullShare a) : sProp 𝕄)
      ⊢ iprop(∃ f : Buf (Elt F) ((comm q).view.loc (c : Thread nD τ)), (comm q).view.loc (c : Thread nD τ) ↦[(slotV q s).view.set]{fullShare} f) := by
  unfold slotO owns
  iintro ⟨%a, %f, -, H⟩
  iexists f
  iexact H
theorem stage_any (q : Fin 4) (s : Fin 2) (f : Buf (Elt F) ((stage q).view.loc (c : Thread nD τ))) :
    ((stage q).view.loc (c : Thread nD τ) ↦[(stageV q s).view.set]{fullShare} f : sProp 𝕄) ⊢ stageO q s c := by
  unfold stageO
  iintro H
  iexists _
  iapply (owns_intro (c : Thread nD τ) (stageV q s) fullShare f)
  iexact H
theorem stage_some (q : Fin 4) (s : Fin 2) :
    (stageO q s c : sProp 𝕄)
      ⊢ iprop(∃ f : Buf (Elt F) ((stage q).view.loc (c : Thread nD τ)), (stage q).view.loc (c : Thread nD τ) ↦[(stageV q s).view.set]{fullShare} f) := by
  unfold stageO owns
  iintro ⟨%a, %f, -, H⟩
  iexists f
  iexact H

theorem comm_split (q : Fin 4) : (commO q c : sProp 𝕄) ⊢ slots4 q c := by
  rw [slots4_eq]
  unfold commO
  iintro ⟨%f, H⟩
  ihave H := ((Entails.of_eq (pointsTo_blocks (ℓ := (comm q).view.loc (c : Thread nD τ)) (fun s => (slotV q s).view.set) (slot_disjoint q) (slot_cover q) f)).trans
    (bigSep_mono fun s _ => slot_any q s f)) $$ H
  iexact H
theorem comm_join (q : Fin 4) : (slots4 q c : sProp 𝕄) ⊢ commO q c := by
  rw [slots4_eq]
  exact (bigSep_mono fun s _ => slot_some q s).trans (pointsTo_blocks_join_exists (ℓ := (comm q).view.loc (c : Thread nD τ))
    (fun s => (slotV q s).view.set) (slot_disjoint q) (slot_cover q) (fun _ => Classical.choice inferInstance))
theorem stage_split (q : Fin 4) : (stagesO q c : sProp 𝕄) ⊢ iprop(stageO q 0 c ∗ stageO q 1 c) := by
  rw [stages2_eq]
  unfold stagesO
  iintro ⟨%f, H⟩
  ihave H := ((Entails.of_eq (pointsTo_blocks (ℓ := (stage q).view.loc (c : Thread nD τ)) (fun s => (stageV q s).view.set) (stage_disjoint q) (stage_cover q) f)).trans
    (bigSep_mono fun s _ => stage_any q s f)) $$ H
  iexact H
theorem stage_join (q : Fin 4) : (iprop(stageO q 0 c ∗ stageO q 1 c) : sProp 𝕄) ⊢ stagesO q c := by
  rw [stages2_eq]
  exact (bigSep_mono fun s _ => stage_some q s).trans (pointsTo_blocks_join_exists (ℓ := (stage q).view.loc (c : Thread nD τ))
    (fun s => (stageV q s).view.set) (stage_disjoint q) (stage_cover q) (fun _ => Classical.choice inferInstance))

/-! ## The result and its pieces -/

/-- The row block that store `n` of ring `q` on device `d` fills. -/
def oRow (q : Fin 4) (n : Fin 16) (d : Dev nD) : Fin 16 :=
  ⟨(if fwd q then d.val + 33 - n.val else d.val + 31 + n.val) % 16, Nat.mod_lt _ (by decide)⟩

theorem oOff_eq : ∀ (q : Fin 4) (n : Fin 16) (d : Dev nD), oOff q n.val d = ![256 * (oRow q n d).val, 2048 * q.val] := by decide +kernel

/-- The store that fills row block `r`. -/
def oRowInv (q : Fin 4) (r : Fin 16) (d : Dev nD) : Fin 16 :=
  ⟨(if fwd q then d.val + 33 - r.val else r.val + 33 - (d.val + 16)) % 16, Nat.mod_lt _ (by decide)⟩
theorem oRow_inv (q : Fin 4) (r : Fin 16) (d : Dev nD) : oRow q (oRowInv q r d) d = r := by revert q r d; decide +kernel
theorem oRow_inj (q : Fin 4) (d : Dev nD) : Function.Injective fun n => oRow q n d := by
  have h : ∀ n, oRowInv q (oRow q n d) d = n := by revert q d; decide +kernel
  intro n n' e
  rw [← h n, ← h n']
  exact congrArg (fun r => oRowInv q r d) e

abbrev outR (c : Dev nD) (b : Fin 4 × Fin 16) : Rect S4096x8192 :=
  Rect.unit (s := S4096x8192) (oOff b.1 b.2.val c) S256x2048.size (o_inb b.1 b.2 c)

theorem mem_outR (b : Fin 4 × Fin 16) (i : S4096x8192.Idx) :
    i ∈ (outR c b).set ↔ (i 0).val / 256 = (oRow b.1 b.2 c).val ∧ (i 1).val / 2048 = b.1.val := by
  rw [Rect.mem_set_unit]
  have h0 : oOff b.1 b.2.val c 0 = 256 * (oRow b.1 b.2 c).val := by rw [oOff_eq]; rfl
  have h1 : oOff b.1 b.2.val c 1 = 2048 * b.1.val := by rw [oOff_eq]; rfl
  constructor
  · intro h
    have a0 := h 0
    have a1 := h 1
    rw [h0] at a0
    rw [h1] at a1
    change _ ∧ _ < _ + 256 at a0
    change _ ∧ _ < _ + 2048 at a1
    omega
  · rintro ⟨e0, e1⟩ a
    fin_cases a
    · show oOff b.1 b.2.val c 0 ≤ (i 0).val ∧ (i 0).val < oOff b.1 b.2.val c 0 + 256
      rw [h0]; omega
    · show oOff b.1 b.2.val c 1 ≤ (i 1).val ∧ (i 1).val < oOff b.1 b.2.val c 1 + 2048
      rw [h1]; omega

theorem outR_disjoint (b b' : Fin 4 × Fin 16) (h : b ≠ b') : Disjoint (outR c b).set (outR c b').set := by
  rw [Finset.disjoint_left]
  intro i hi hi'
  obtain ⟨r, e⟩ := (mem_outR b i).mp hi
  obtain ⟨r', e'⟩ := (mem_outR b' i).mp hi'
  have hq : b.1 = b'.1 := Fin.ext (e.symm.trans e')
  have hr : oRow b.1 b.2 c = oRow b.1 b'.2 c := by rw [hq]; rw [hq] at r; exact Fin.ext (r.symm.trans r')
  exact h (Prod.ext hq (oRow_inj b.1 c hr))
theorem outR_cover : Finset.univ.biUnion (fun b => (outR c b).set) = Finset.univ := by
  refine Finset.eq_univ_iff_forall.mpr fun i => ?_
  have h0 : (i 0).val < 4096 := (i 0).isLt
  have h1 : (i 1).val < 8192 := (i 1).isLt
  refine Finset.mem_biUnion.mpr ⟨(⟨(i 1).val / 2048, by omega⟩, oRowInv ⟨(i 1).val / 2048, by omega⟩ ⟨(i 0).val / 256, by omega⟩ c),
    Finset.mem_univ _, (mem_outR _ i).mpr ⟨?_, rfl⟩⟩
  rw [oRow_inv]

theorem outV_disjoint (b b' : Fin 4 × Fin 16) (h : b ≠ b') : Disjoint (outV b.1 b.2 c).view.set (outV b'.1 b'.2 c).view.set :=
  parts_disjoint (Memref.whole main_v1 : Memref sig .tc .hbm S4096x8192 .f32) (outR c) outR_disjoint b b' h
theorem outV_cover : Finset.biUnion (β := (Memref.whole main_v1 : Memref sig .tc .hbm S4096x8192 .f32).view.ty.Idx) Finset.univ (fun b : Fin 4 × Fin 16 => (outV b.1 b.2 c).view.set) = Finset.univ :=
  parts_cover (Memref.whole main_v1 : Memref sig .tc .hbm S4096x8192 .f32) (outR c) (View.set_whole _) outR_cover

/-- A sum over the first `n` numbers is the sum over the indices below `n`. -/
theorem sep_range (n : ℕ) (A : ℕ → sProp 𝕄) : bigSep (Finset.range n) A = bigSep Finset.univ fun i : Fin n => A i.val := by
  rw [show Finset.range n = Finset.univ.map Fin.valEmbedding by
    ext x; simp only [Finset.mem_range, Finset.mem_map, Finset.mem_univ, true_and, Fin.valEmbedding_apply]
    exact ⟨fun h => ⟨⟨x, h⟩, rfl⟩, fun ⟨i, hi⟩ => hi ▸ i.isLt⟩, bigSep_map]
  rfl
theorem on_fin (n : Fin 16) : on n.val = n := Fin.ext (Nat.mod_eq_of_lt n.isLt)

theorem out_any (q : Fin 4) (n : Fin 16) (f : Buf (Elt F) ((c : Thread nD τ).loc main_v1)) :
    (((c : Thread nD τ).loc main_v1) ↦[(outV q n c).view.set]{fullShare} f : sProp 𝕄) ⊢ iprop(∃ a, outO q n.val c a) := by
  unfold outO
  rw [on_fin]
  iintro H
  iexists _
  iapply (owns_intro (c : Thread nD τ) (outV q n c) fullShare f)
  iexact H

/-- The result on device `c`, before the run: every piece of it, holding anything. -/
theorem out_split (f : Buf (Elt F) ((c : Thread nD τ).loc main_v1)) :
    (((c : Thread nD τ).loc main_v1) ↦{fullShare} f : sProp 𝕄)
      ⊢ bigSep Finset.univ fun q : Fin 4 => bigSep (Finset.Ico 0 16) fun n => iprop(∃ a, outO q n c a) := by
  refine (Entails.of_eq (pointsTo_blocks (fun b : Fin 4 × Fin 16 => (outV b.1 b.2 c).view.set) outV_disjoint outV_cover f)).trans ?_
  rw [bigSep_univ_prod]
  refine bigSep_mono fun q _ => ?_
  rw [← Finset.range_eq_Ico, sep_range]
  exact bigSep_mono fun n _ => out_any q n f

/-- The result on device `c`, after it: one array, each piece of it what its store put there. -/
theorem out_join (V : Fin 4 → ℕ → FVec F S256x2048 .f32) :
    (bigSep Finset.univ fun q : Fin 4 => bigSep (Finset.range 16) fun n => (outO q n c (V q n) : sProp 𝕄))
      ⊢ iprop(∃ g : Buf (Elt F) ((c : Thread nD τ).loc main_v1), ⌜∀ (q : Fin 4) (n : Fin 16), (outV q n c).view.read (Elt F) g = V q n.val⌝
        ∗ (((c : Thread nD τ).loc main_v1) ↦{fullShare} g)) := by
  rw [show (fun q : Fin 4 => bigSep (Finset.range 16) fun n => (outO q n c (V q n) : sProp 𝕄))
      = fun q => bigSep Finset.univ fun n : Fin 16 => owns (c : Thread nD τ) (outV q n c) fullShare (V q n.val) from
    funext fun q => by rw [sep_range]; exact bigSep_congr fun n _ => by unfold outO; rw [on_fin],
    ← bigSep_univ_prod (fun b : Fin 4 × Fin 16 => (owns (c : Thread nD τ) (outV b.1 b.2 c) fullShare (V b.1 b.2.val) : sProp 𝕄))]
  unfold owns
  haveI : Nonempty (Buf (Elt F) ((c : Thread nD τ).loc main_v1)) := ⟨fun _ => Classical.choice inferInstance⟩
  refine (bigSep_exists_pi Finset.univ (fun (b : Fin 4 × Fin 16) (f : Buf (Elt F) ((c : Thread nD τ).loc main_v1)) =>
    (iprop(⌜(outV b.1 b.2 c).view.read (Elt F) f = V b.1 b.2.val⌝ ∗ (((c : Thread nD τ).loc main_v1) ↦[(outV b.1 b.2 c).view.set]{fullShare} f)) : sProp 𝕄))).trans ?_
  iintro ⟨%fs, H⟩
  ihave H := (bigSep_pure_sep Finset.univ (fun b : Fin 4 × Fin 16 => (outV b.1 b.2 c).view.read (Elt F) (fs b) = V b.1 b.2.val)
    (fun b => (((c : Thread nD τ).loc main_v1) ↦[(outV b.1 b.2 c).view.set]{fullShare} fs b : sProp 𝕄))) $$ H
  icases H with ⟨%hfs, H⟩
  ihave H := (pointsTo_biUnion_join Finset.univ (fun b : Fin 4 × Fin 16 => (outV b.1 b.2 c).view.set) fs (fun _ => Classical.choice inferInstance)
    (fun b _ b' _ h => outV_disjoint b b' h)) $$ H
  icases H with ⟨%g, %hg, H⟩
  iexists g
  isplitr
  · ipureintro
    intro q n
    rw [← hfs (q, n) (Finset.mem_univ _)]
    exact View.read_congr fun i hi => hg (q, n) (Finset.mem_univ _) i hi
  ihave H := (Entails.of_eq (congrArg (fun S => (((c : Thread nD τ).loc main_v1) ↦[S]{fullShare} g : sProp 𝕄)) outV_cover)) $$ H
  iexact H

/-! ## The semaphores, closed -/

/-- A semaphore with no rounds left is at zero. -/
theorem close_cell (k : Cell) {R : ℕ} (h : ∀ r, R ≤ r → kDuties k r = ∅) :
    iprop(ctx X Wt K ∗ atPos ER (cell c k) R ∅ 0) ⊢ |={Set.univ}=> (semVal (cell c k) 0 : sProp 𝕄) := by
  iintro ⟨#HC, H⟩
  imod (Rounds.cell_close ER (Rd X Wt) (Set.mem_univ (K (c, k))) (fun h => h) (R := R)
    (fun r hr => (duties_cell X Wt c k r).trans (h r hr))) $$ [H] with Hz
  · isplitr; · iapply (ctx_inv X Wt K c k); iexact HC
    iexact H
  imodintro
  iexact Hz

theorem close_recv (q : Fin 4) {v : ℕ} (hv : 30 ≤ v) :
    iprop(ctx X Wt K ∗ rp q v c) ⊢ |={Set.univ}=> (semVal (cell c (some (q, .recv (sl (v + 1))))) 0 : sProp 𝕄) := by
  unfold rp
  iintro ⟨#HC, H, -⟩
  iapply (close_cell (X := X) (Wt := Wt) (K := K) (some (q, .recv (sl (v + 1)))) (R := v / 4) (fun r hr => if_neg (by
    unfold lrecv sl; show ¬ 4 * r + ((v + 1) % 4 + 3) % 4 < 30; omega)))
  isplitr; · iexact HC
  iexact H
theorem close_send (q : Fin 4) {v : ℕ} (hv : 30 ≤ v) :
    iprop(ctx X Wt K ∗ sp q v c) ⊢ |={Set.univ}=> (semVal (cell c (some (q, .send (sl v)))) 0 : sProp 𝕄) := by
  unfold sp
  iintro ⟨#HC, H, -⟩
  iapply (close_cell (X := X) (Wt := Wt) (K := K) (some (q, .send (sl v))) (R := v / 4) (fun r hr => if_neg (by
    show ¬ 4 * r + v % 4 < 30; omega)))
  isplitr; · iexact HC
  iexact H
theorem close_out (q : Fin 4) {n : ℕ} (hn : 16 ≤ n) :
    iprop(ctx X Wt K ∗ op q n c) ⊢ |={Set.univ}=> (semVal (cell c (some (q, .out (st n)))) 0 : sProp 𝕄) := by
  unfold op
  iintro ⟨#HC, H, -⟩
  iapply (close_cell (X := X) (Wt := Wt) (K := K) (some (q, .out (st n))) (R := n / 2) (fun r hr => if_neg (by
    show ¬ 2 * r + n % 2 < 16; omega)))
  isplitr; · iexact HC
  iexact H
theorem close_credit (q : Fin 4) :
    iprop(ctx X Wt K ∗ cpos q 27 c) ⊢ |={Set.univ}=> (semVal (cell c (some (q, .credit))) 0 : sProp 𝕄) := by
  unfold cpos
  iintro ⟨#HC, ⟨%S, %hS, H⟩⟩
  have hT : (Rd X Wt).duties (ccell q c) 0 ⊆ S := by
    rw [credit_duties]
    exact Finset.sdiff_eq_empty_iff_subset.mp (Finset.card_eq_zero.mp (by omega))
  imod (Rounds.fupd_skip ER (Rd X Wt) (g := ccell q c) hT (credit_expect X Wt q c).symm (Set.mem_univ (K (c, some (q, .credit))))) $$ [H] with H
  · isplitr; · iapply (ctx_inv X Wt K c (some (q, .credit))); iexact HC
    iexact H
  icases H with ⟨H, -⟩
  iapply (close_cell (X := X) (Wt := Wt) (K := K) (some (q, .credit)) (R := 1) (fun r hr => if_neg (by omega)))
  isplitr; · iexact HC
  iexact H
theorem close_bar : iprop(ctx X Wt K ∗ atPos ER (bcell c) 1 ∅ 0) ⊢ |={Set.univ}=> (semVal (bcell c) 0 : sProp 𝕄) :=
  close_cell (X := X) (Wt := Wt) (K := K) none (R := 1) (fun r hr => if_neg (by omega))

/-- Every semaphore of ring `q` on device `c` at zero. -/
def zeroR (q : Fin 4) (c : Dev nD) : sProp 𝕄 := bigSep Finset.univ fun k : RK => semVal (cell c (some (q, k))) 0

theorem zeroR_eq (q : Fin 4) : (zeroR q c : sProp 𝕄) = iprop(semVal (cell c (some (q, .recv 0))) 0 ∗ semVal (cell c (some (q, .recv 1))) 0
    ∗ semVal (cell c (some (q, .recv 2))) 0 ∗ semVal (cell c (some (q, .recv 3))) 0 ∗ semVal (cell c (some (q, .send 0))) 0
    ∗ semVal (cell c (some (q, .send 1))) 0 ∗ semVal (cell c (some (q, .send 2))) 0 ∗ semVal (cell c (some (q, .send 3))) 0
    ∗ semVal (cell c (some (q, .credit))) 0 ∗ semVal (cell c (some (q, .out 0))) 0 ∗ semVal (cell c (some (q, .out 1))) 0) :=
  (bigSep_univ_eq_bigSepL rkList (by decide) (by decide) _).trans rfl

/-- A ring at its end gives its semaphores back at zero, its buffers whole, and its pieces of the result. -/
theorem close_ring (q : Fin 4) :
    iprop(ctx X Wt K ∗ endR X Wt q c) ⊢ |={Set.univ}=> iprop(zeroR q c ∗ commO q c ∗ stagesO q c
      ∗ bigSep (Finset.range 16) fun n => outO q n c (outVal X Wt q n c)) := by
  rw [zeroR_eq]
  unfold endR outEnd rps sps
  iintro ⟨#HC, ⟨Hr0, Hr1, Hr2, Hr3⟩, ⟨Hs0, Hs1, Hs2, Hs3⟩, Hc, Hsl, Hout, Ho0, Ho1, Hst⟩
  imod (close_recv (X := X) (Wt := Wt) (K := K) q (show 30 ≤ 30 by omega)) $$ [Hr0] with Hr0
  · isplitr; · iexact HC
    iexact Hr0
  imod (close_recv (X := X) (Wt := Wt) (K := K) q (show 30 ≤ 31 by omega)) $$ [Hr1] with Hr1
  · isplitr; · iexact HC
    iexact Hr1
  imod (close_recv (X := X) (Wt := Wt) (K := K) q (show 30 ≤ 32 by omega)) $$ [Hr2] with Hr2
  · isplitr; · iexact HC
    iexact Hr2
  imod (close_recv (X := X) (Wt := Wt) (K := K) q (show 30 ≤ 33 by omega)) $$ [Hr3] with Hr3
  · isplitr; · iexact HC
    iexact Hr3
  imod (close_send (X := X) (Wt := Wt) (K := K) q (show 30 ≤ 30 by omega)) $$ [Hs0] with Hs0
  · isplitr; · iexact HC
    iexact Hs0
  imod (close_send (X := X) (Wt := Wt) (K := K) q (show 30 ≤ 31 by omega)) $$ [Hs1] with Hs1
  · isplitr; · iexact HC
    iexact Hs1
  imod (close_send (X := X) (Wt := Wt) (K := K) q (show 30 ≤ 32 by omega)) $$ [Hs2] with Hs2
  · isplitr; · iexact HC
    iexact Hs2
  imod (close_send (X := X) (Wt := Wt) (K := K) q (show 30 ≤ 33 by omega)) $$ [Hs3] with Hs3
  · isplitr; · iexact HC
    iexact Hs3
  imod (close_out (X := X) (Wt := Wt) (K := K) q (show 16 ≤ 16 by omega)) $$ [Ho0] with Ho0
  · isplitr; · iexact HC
    iexact Ho0
  imod (close_out (X := X) (Wt := Wt) (K := K) q (show 16 ≤ 17 by omega)) $$ [Ho1] with Ho1
  · isplitr; · iexact HC
    iexact Ho1
  imod (close_credit (X := X) (Wt := Wt) (K := K) q) $$ [Hc] with Hc
  · isplitr; · iexact HC
    iexact Hc
  imodintro
  isplitr [Hsl Hst Hout]
  · isplitl [Hr1]; · iexact Hr1
    isplitl [Hr2]; · iexact Hr2
    isplitl [Hr3]; · iexact Hr3
    isplitl [Hr0]; · iexact Hr0
    isplitl [Hs2]; · iexact Hs2
    isplitl [Hs3]; · iexact Hs3
    isplitl [Hs0]; · iexact Hs0
    isplitl [Hs1]; · iexact Hs1
    isplitl [Hc]; · iexact Hc
    isplitl [Ho0]; · iexact Ho0
    iexact Ho1
  isplitl [Hsl]; · iapply (comm_join q); iexact Hsl
  isplitl [Hst]; · iapply (stage_join q); iexact Hst
  iexact Hout

end Cert.KernelIdeal.Rings
-- ==== Proof.Rings.Deal.lean ====
/-
  What the launch deals: the semaphores' rounds, positions and tokens, each token handed to the device that pays it, and the
  credits for what the devices owe one another.
-/
module

public import proofs.«01_k».proof.Proof.Rings.Ends
public import proofs.«01_k».proof.Proof.Gen.KernelIdeal.Launch

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable {X : Dev nD → (cc0_stg0_0 : Ref sig .tc).ty.Contents (Elt F)} {Wt : Dev nD → (cc0_stg1_0 : Ref sig .tc).ty.Contents (Elt F)}
variable {K : Dev nD × Cell → ℕ}
variable {c : Dev nD} {O : CellTallies nD τ sig ℕ} {Q : PUnit → sProp (MT nD τ sig ℕ (Elt F) ℕ UU ℕ)}

/-! ## Conjunctions over the semaphores of a device -/

theorem sep_cell (A : Cell → sProp 𝕄) :
    bigSep Finset.univ A = iprop((bigSep Finset.univ fun q : Fin 4 => bigSep Finset.univ fun k : RK => A (some (q, k))) ∗ A none) := by
  rw [bigSep_univ_equiv (Equiv.optionEquivSumPUnit.{0, 0} (Fin 4 × RK)).symm A, bigSep_univ_sum, bigSep_univ_of_subsingleton PUnit.unit]
  show iprop((bigSep Finset.univ fun qk : Fin 4 × RK => A (some qk)) ∗ A none) = _
  rw [bigSep_univ_prod]

theorem sep_kind (A : RK → sProp 𝕄) :
    bigSep Finset.univ A = iprop(A (.recv 0) ∗ A (.recv 1) ∗ A (.recv 2) ∗ A (.recv 3) ∗ A (.send 0) ∗ A (.send 1) ∗ A (.send 2) ∗ A (.send 3)
      ∗ A .credit ∗ A (.out 0) ∗ A (.out 1)) :=
  (bigSep_univ_eq_bigSepL rkList (by decide) (by decide) _).trans rfl

theorem sep_four (A : Fin 4 → sProp 𝕄) : bigSep Finset.univ A = iprop(A 0 ∗ A 1 ∗ A 2 ∗ A 3) :=
  (bigSep_univ_eq_bigSepL [0, 1, 2, 3] (by decide) (by decide) _).trans rfl

theorem sep_ico (n : ℕ) (A : ℕ → sProp 𝕄) : bigSep (Finset.Ico 0 n) A = bigSep Finset.univ fun i : Fin n => A i.val := by
  rw [← Finset.range_eq_Ico, sep_range]

/-! ## The cells and the tokens -/

theorem cell_injective : Function.Injective fun ck : Dev nD × Cell => cell ck.1 ck.2 := by
  rintro ⟨c, k⟩ ⟨c', k'⟩ h
  have h1 : c = c' := congrArg (fun g : GSem nD τ sig => g.1.1) h
  have h2 : k = k' := semOf_injective (congrArg Prod.snd h)
  rw [h1, h2]

/-- Every semaphore of every device. -/
def cellSet : Finset (GSem nD τ sig) := Finset.univ.map ⟨fun ck : Dev nD × Cell => cell ck.1 ck.2, cell_injective⟩

/-- The tokens of a device's own semaphores: two of its barrier, and in each ring one of every launch into it, of every
    launch out of it, of every credit and of every store. -/
abbrev Tok : Type := Fin 2 ⊕ (Fin 4 × (Fin 30 ⊕ Fin 30 ⊕ Fin 27 ⊕ Fin 16))

def tokOf : Tok → Cell × ℕ × ℕ
  | .inl d => (none, 0, d.val)
  | .inr (q, .inl v) => (some (q, .recv (sl (v.val + 1))), v.val / 4, 0)
  | .inr (q, .inr (.inl v)) => (some (q, .send (sl v.val)), v.val / 4, 0)
  | .inr (q, .inr (.inr (.inl r))) => (some (q, .credit), 0, r.val)
  | .inr (q, .inr (.inr (.inr n))) => (some (q, .out (st n.val)), n.val / 2, 0)

theorem sl_inj {u v : ℕ} (h : sl u = sl v) (h' : u / 4 = v / 4) : u = v := by
  have := congrArg Fin.val h
  have : u % 4 = v % 4 := this
  omega
theorem sl_succ_inj {u v : ℕ} (h : sl (u + 1) = sl (v + 1)) (h' : u / 4 = v / 4) : u = v := by
  have := congrArg Fin.val h
  have : (u + 1) % 4 = (v + 1) % 4 := this
  omega
theorem st_inj {u v : ℕ} (h : st u = st v) (h' : u / 2 = v / 2) : u = v := by
  have := congrArg Fin.val h
  have : u % 2 = v % 2 := this
  omega

theorem tokOf_injective : Function.Injective tokOf := by
  rintro (d | ⟨q, v | v | v | v⟩) (d' | ⟨q', v' | v' | v' | v'⟩) h <;>
    simp only [tokOf, Prod.mk.injEq, Option.some.injEq, RK.recv.injEq, RK.send.injEq, RK.out.injEq, reduceCtorEq, false_and, and_false,
      and_true, true_and, Sum.inl.injEq, Sum.inr.injEq] at h ⊢
  · exact Fin.ext h
  · exact ⟨h.1.1, Fin.ext (sl_succ_inj h.1.2 h.2)⟩
  · exact ⟨h.1.1, Fin.ext (sl_inj h.1.2 h.2)⟩
  · exact ⟨h.1, Fin.ext h.2⟩
  · exact ⟨h.1.1, Fin.ext (st_inj h.1.2 h.2)⟩

theorem tok_injective : Function.Injective fun ci : Dev nD × Tok => (cell ci.1 (tokOf ci.2).1, (tokOf ci.2).2.1, (tokOf ci.2).2.2) := by
  rintro ⟨c, i⟩ ⟨c', i'⟩ h
  have h1 : (c, (tokOf i).1) = (c', (tokOf i').1) := cell_injective (congrArg (fun x : GSem nD τ sig × ℕ × ℕ => x.1) h)
  have h2 : (tokOf i).2 = (tokOf i').2 := congrArg (fun x : GSem nD τ sig × ℕ × ℕ => x.2) h
  have h3 : i = i' := tokOf_injective (Prod.ext (congrArg Prod.snd h1) h2)
  rw [show c = c' from congrArg Prod.fst h1, h3]

def tokSet : Finset (GSem nD τ sig × ℕ × ℕ) :=
  Finset.univ.map ⟨fun ci : Dev nD × Tok => (cell ci.1 (tokOf ci.2).1, (tokOf ci.2).2.1, (tokOf ci.2).2.2), tok_injective⟩

/-- The launch's element: the pipeline's own and the rings'. -/
def u₀ : UU := (initOf (Pipeline.cells cfgs cellOf_inj) (Pipeline.launchToks cfgs cellOf_inj), initOf cellSet tokSet)

/-- Of ring `q`: the tokens of device `c`'s own semaphores. -/
def ownToks (q : Fin 4) (c : Dev nD) : sProp 𝕄 :=
  iprop((bigSep Finset.univ fun v : Fin 30 => dutyTok ER (rcell q (sl (v.val + 1)) c) (v.val / 4) 0)
    ∗ (bigSep Finset.univ fun v : Fin 30 => dutyTok ER (scell q (sl v.val) c) (v.val / 4) 0)
    ∗ (bigSep Finset.univ fun r : Fin 27 => dutyTok ER (ccell q c) 0 r.val)
    ∗ (bigSep Finset.univ fun n : Fin 16 => dutyTok ER (ocell q (st n.val) c) (n.val / 2) 0))
/-- Of ring `q`: the tokens device `c` pays with. -/
def payToks (q : Fin 4) (c : Dev nD) : sProp 𝕄 :=
  iprop(toks q 0 c ∗ (bigSep (Finset.Ico 0 27) fun r => credTok q r c) ∗ (bigSep (Finset.Ico 0 16) fun n => outTok q n c))
def ownBar (c : Dev nD) : sProp 𝕄 := iprop(dutyTok ER (bcell c) 0 0 ∗ dutyTok ER (bcell c) 0 1)
def payBar (c : Dev nD) : sProp 𝕄 := iprop(dutyTok ER (bcell (left c)) 0 1 ∗ dutyTok ER (bcell (right c)) 0 0)

theorem tokSet_eq : (bigSep tokSet fun x => (dutyTok ER x.1 x.2.1 x.2.2 : sProp 𝕄))
    = bigSep Finset.univ fun c : Dev nD => iprop(ownBar c ∗ bigSep Finset.univ fun q : Fin 4 => ownToks q c) := by
  unfold tokSet
  rw [bigSep_map, bigSep_univ_prod]
  refine bigSep_congr fun c _ => ?_
  rw [bigSep_univ_sum, bigSep_fin_two, bigSep_univ_prod]
  refine congrArg (fun z => BI.sep (ownBar c) z) (bigSep_congr fun q _ => ?_)
  rw [bigSep_univ_sum, bigSep_univ_sum, bigSep_univ_sum]
  rfl

theorem cellSet_eq (A : GSem nD τ sig → sProp 𝕄) :
    bigSep cellSet A = bigSep Finset.univ fun c : Dev nD => bigSep Finset.univ fun k : Cell => A (cell c k) := by
  unfold cellSet; rw [bigSep_map, bigSep_univ_prod]; rfl

/-! ## The tokens to their payers -/

def dstE (q : Fin 4) : Dev nD ≃ Dev nD := ⟨dst q, ups q, ups_dst q, dst_ups q⟩
def rightE : Dev nD ≃ Dev nD := ⟨right, left, left_right, right_left⟩

theorem around (q : Fin 4) : (bigSep Finset.univ fun c : Dev nD => (ownToks q c : sProp 𝕄)) ⊢ bigSep Finset.univ fun c : Dev nD => payToks q c := by
  unfold ownToks payToks toks
  simp only [bigSep_sep', sep_ico]
  rw [bigSep_univ_equiv (dstE q) fun c : Dev nD => (bigSep Finset.univ fun v : Fin 30 => (dutyTok ER (rcell q (sl (v.val + 1)) c) (v.val / 4) 0 : sProp 𝕄)),
    bigSep_univ_equiv (dstE q).symm fun c : Dev nD => (bigSep Finset.univ fun r : Fin 27 => (dutyTok ER (ccell q c) 0 r.val : sProp 𝕄))]
  iintro ⟨H1, H2, H3, H4⟩
  isplitl [H1 H2]
  · isplitl [H1]; · iexact H1
    iexact H2
  isplitl [H3]; · iexact H3
  iexact H4

theorem around_bar : (bigSep Finset.univ fun c : Dev nD => (ownBar c : sProp 𝕄)) ⊢ bigSep Finset.univ fun c : Dev nD => payBar c := by
  unfold ownBar payBar
  simp only [bigSep_sep']
  rw [bigSep_univ_equiv rightE fun c : Dev nD => (dutyTok ER (bcell c) 0 0 : sProp 𝕄),
    bigSep_univ_equiv rightE.symm fun c : Dev nD => (dutyTok ER (bcell c) 0 1 : sProp 𝕄)]
  iintro ⟨H1, H2⟩
  isplitl [H2]; · iexact H2
  iexact H1

theorem around_all : (bigSep Finset.univ fun c : Dev nD => (iprop(ownBar c ∗ bigSep Finset.univ fun q : Fin 4 => ownToks q c) : sProp 𝕄))
    ⊢ bigSep Finset.univ fun c : Dev nD => iprop(payBar c ∗ bigSep Finset.univ fun q : Fin 4 => payToks q c) := by
  rw [bigSep_sep', bigSep_sep', bigSep_univ_comm, bigSep_univ_comm (fun (c : Dev nD) (q : Fin 4) => (payToks q c : sProp 𝕄))]
  exact BIClass.sep_mono around_bar (bigSep_mono fun q _ => around q)

/-! ## What the launch gives a device -/

/-- The positions and the tokens device `c` starts with. -/
def linear (c : Dev nD) : sProp 𝕄 :=
  iprop((bigSep Finset.univ fun k : Cell => atPos ER (cell c k) 0 ∅ 0) ∗ payBar c ∗ bigSep Finset.univ fun q : Fin 4 => payToks q c)

section Ghost

variable (X : Dev nD → (cc0_stg0_0 : Ref sig .tc).ty.Contents (Elt F)) (Wt : Dev nD → (cc0_stg1_0 : Ref sig .tc).ty.Contents (Elt F))

def G (c : Dev nD) : sProp 𝕄 :=
  iprop((bigSep Finset.univ fun k : Cell => roundState ER (Rd X Wt) (cell c k) 0)
    ∗ ((bigSep Finset.univ fun k : Cell => atPos ER (cell c k) 0 ∅ 0) ∗ (bigSep Finset.univ fun k : Cell => reached ER (cell c k) 0))
    ∗ (ownBar c ∗ bigSep Finset.univ fun q : Fin 4 => ownToks q c))

def G' (c : Dev nD) : sProp 𝕄 := iprop(∃ K, records X Wt K ∗ linear c)

theorem G_sep : bigSep Finset.univ (G X Wt)
    = iprop((bigSep Finset.univ fun c : Dev nD => bigSep Finset.univ fun k : Cell => roundState ER (Rd X Wt) (cell c k) 0)
      ∗ ((bigSep Finset.univ fun c : Dev nD => bigSep Finset.univ fun k : Cell => atPos ER (cell c k) 0 ∅ 0)
        ∗ (bigSep Finset.univ fun c : Dev nD => bigSep Finset.univ fun k : Cell => reached ER (cell c k) 0))
      ∗ bigSep Finset.univ fun c : Dev nD => iprop(ownBar c ∗ bigSep Finset.univ fun q : Fin 4 => ownToks q c)) := by
  unfold G
  rw [bigSep_sep', bigSep_sep', bigSep_sep' Finset.univ (fun c : Dev nD => bigSep Finset.univ fun k : Cell => (atPos ER (cell c k) 0 ∅ 0 : sProp 𝕄))]

theorem fund_rings : BI.own (ER (initOf cellSet tokSet)) ⊢ (|==> bigSep Finset.univ (G X Wt) : sProp 𝕄) := by
  iintro HX
  imod (Rounds.fund ER (Rd X Wt) cellSet tokSet) $$ HX with ⟨Hst, Hr, Hat, Htok⟩
  imodintro
  ihave Hst := (Entails.of_eq (cellSet_eq fun g => roundState ER (Rd X Wt) g 0)) $$ Hst
  ihave Hat := (Entails.of_eq (cellSet_eq fun g => atPos ER g 0 ∅ 0)) $$ Hat
  ihave Hr := (Entails.of_eq (cellSet_eq fun g => reached ER g 0)) $$ Hr
  ihave Htok := (Entails.of_eq (tokSet_eq (F := F))) $$ Htok
  iapply (Entails.of_eq (G_sep X Wt).symm)
  isplitl [Hst]; · iexact Hst
  isplitl [Hat Hr]
  · isplitl [Hat]; · iexact Hat
    iexact Hr
  iexact Htok

/-- The rings' semaphores, as the kernel's own; the barrier's is not among them. -/
def ringSem (qk : Fin 4 × RK) : SemLoc sig := semOf (some qk)

theorem ringSem_facts : Pipeline.OwnSemFacts cfg0.spec ringSem := by decide +kernel

theorem ownSems0_eq (c : Dev nD) : (Pipeline.ownSems0 (Ix := ℕ) (Name := ℕ) (U := UU) (Lvl := ℕ) (Val := Elt F) (τ := τ) ringSem c : sProp 𝕄)
    = bigSep Finset.univ fun q : Fin 4 => zeroR q c := by
  unfold Pipeline.ownSems0 zeroR
  rw [bigSep_univ_prod]; rfl

theorem unscopedSems0_eq (c : Dev nD) : (unscopedSems0 c : sProp 𝕄) = semVal (bcell c) 0 := by
  unfold unscopedSems0; rw [bigSep_eq_bigSepL_of_eq [SemLoc.reg bsem] (by decide) (by decide +kernel)]; rfl

theorem sems0_eq (c : Dev nD) :
    iprop(Pipeline.ownSems0 (Ix := ℕ) (Name := ℕ) (U := UU) (Lvl := ℕ) (Val := Elt F) (τ := τ) ringSem c ∗ unscopedSems0 c)
      = (bigSep Finset.univ fun k : Cell => semVal (cell c k) 0 : sProp 𝕄) := by
  rw [ownSems0_eq, unscopedSems0_eq, sep_cell]; rfl

theorem alloc (c : Dev nD) :
    iprop((bigSep Finset.univ fun k : Cell => semVal (cell c k) 0) ∗ bigSep Finset.univ fun k : Cell => roundState ER (Rd X Wt) (cell c k) 0)
      ⊢ (|={Set.univ}=> bigSep Finset.univ fun k => iprop(∃ κ : ℕ, cellInv ER (Rd X Wt) κ (cell c k)) : sProp 𝕄) := by
  rw [← bigSep_sep']
  exact (bigSep_mono fun k _ => (Rounds.body_intro ER (Rd X Wt) (cell c k)).trans inv_alloc).trans (bigSep_fupd _ _)

/-- What a device has once its semaphores are governed by their rounds. -/
def Alloc (c : Dev nD) : sProp 𝕄 :=
  iprop((bigSep Finset.univ fun k : Cell => iprop(∃ κ : ℕ, cellInv ER (Rd X Wt) κ (cell c k)))
    ∗ ((bigSep Finset.univ fun k : Cell => atPos ER (cell c k) 0 ∅ 0) ∗ (bigSep Finset.univ fun k : Cell => reached ER (cell c k) 0))
    ∗ (ownBar c ∗ bigSep Finset.univ fun q : Fin 4 => ownToks q c))

theorem device_alloc (c : Dev nD) :
    iprop(Pipeline.ownSems0 (Ix := ℕ) (Name := ℕ) (U := UU) (Lvl := ℕ) (Val := Elt F) (τ := τ) ringSem c ∗ unscopedSems0 c ∗ G X Wt c)
      ⊢ |={Set.univ}=> Alloc X Wt c := by
  unfold G Alloc
  iintro ⟨Hos, Hus, Hst, Hat, Htok⟩
  ihave Hv := (Entails.of_eq (sems0_eq (F := F) c)) $$ [Hos Hus]
  · isplitl [Hos]; · iexact Hos
    iexact Hus
  imod (alloc X Wt c) $$ [Hv Hst] with Hinv
  · isplitl [Hv]; · iexact Hv
    iexact Hst
  imodintro
  isplitl [Hinv]; · iexact Hinv
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Cell → ℕ) (c : Dev nD) : iprop(records X Wt K ∗ linear c) ⊢ G' X Wt c := by
  unfold G'
  iintro H
  iexists K
  iexact H

theorem regroup : bigSep Finset.univ (Alloc X Wt) ⊢ bigSep Finset.univ (G' X Wt) := by
  unfold Alloc
  rw [bigSep_sep', bigSep_sep', bigSep_sep', ← bigSep_univ_prod (fun ck : Dev nD × Cell => iprop(∃ κ : ℕ, cellInv ER (Rd X Wt) κ (cell ck.1 ck.2))),
    ← bigSep_univ_prod (fun ck : Dev nD × Cell => (reached ER (cell ck.1 ck.2) 0 : sProp 𝕄))]
  iintro ⟨HI, ⟨Hat, #HR⟩, Htok⟩
  ihave HK := (BI.bigSep_exists_pi Finset.univ (fun (ck : Dev nD × Cell) (κ : ℕ) => (cellInv ER (Rd X Wt) κ (cell ck.1 ck.2) : sProp 𝕄))) $$ HI
  icases HK with ⟨%K, #HI⟩
  ihave Htok := (around_all (F := F)) $$ Htok
  iapply (with_persistent (R := records X Wt K) fun c _ => ghost_intro X Wt K c)
  isplitr
  · unfold records
    isplitl; · iexact HI
    iexact HR
  iapply (Entails.of_eq (bigSep_sep' Finset.univ (fun c : Dev nD => bigSep Finset.univ fun k : Cell => (atPos ER (cell c k) 0 ∅ 0 : sProp 𝕄))
    (fun c => iprop(payBar c ∗ bigSep Finset.univ fun q : Fin 4 => payToks q c))).symm)
  isplitl [Hat]; · iexact Hat
  iexact Htok

/-- All devices' semaphores at once, governed by their rounds, and every token with its payer. -/
theorem glob : (bigSep Finset.univ fun c => iprop(Pipeline.ownSems0 (Ix := ℕ) (Name := ℕ) (U := UU) (Lvl := ℕ) (Val := Elt F) (τ := τ) ringSem c
      ∗ unscopedSems0 c ∗ G X Wt c) : sProp 𝕄) ⊢ |={Set.univ}=> bigSep Finset.univ (G' X Wt) :=
  ((bigSep_mono fun c _ => device_alloc X Wt c).trans (bigSep_fupd _ _)).trans (BI.fupd_mono (regroup X Wt))

end Ghost

/-! ## The launch credit -/

theorem cred_dueR (q : Fin 4) (v : ℕ) (c : Dev nD) : (Pipeline.launchCred (fun d => dueR q d v) c : sProp 𝕄) ⊢ recvCr q v c :=
  Pipeline.launchCred_tallyAt (.dma (rsem q (sl (v + 1)))) (dst q) (ups q) (dst_ups q) (ups_dst q) (v + 2) NS c

theorem cred_dueC (q : Fin 4) {r : ℕ} (hr : r < 27) (c : Dev nD) : (Pipeline.launchCred (fun d => dueC q d (r + 1)) c : sProp 𝕄) ⊢ creditCr q r c := by
  rw [show (fun d => dueC q d (r + 1)) = fun d => tallyAt (((ups q d).tc : Thread nD τ), .reg (csem q)) (r + 3) 1 from
    funext fun d => if_pos ⟨by omega, by omega⟩]
  exact Pipeline.launchCred_tallyAt (.reg (csem q)) (ups q) (dst q) (ups_dst q) (dst_ups q) (r + 3) 1 c

theorem sep_shift {A B : ℕ → sProp 𝕄} (h : ∀ r < 27, A (r + 1) ⊢ B r) : bigSep (Finset.Ico 0 30) A ⊢ bigSep (Finset.Ico 0 27) B := by
  refine (bigSep_subset (t := (Finset.Ico 0 27).map ⟨fun r => r + 1, fun a b h => Nat.succ.inj h⟩) fun i hi => ?_).trans ?_
  · obtain ⟨r, hr, rfl⟩ := Finset.mem_map.mp hi
    have := Finset.mem_Ico.mp hr
    exact Finset.mem_Ico.mpr ⟨Nat.zero_le _, by show r + 1 < 30; omega⟩
  · rw [bigSep_map]
    exact bigSep_mono fun r hr => h r (Finset.mem_Ico.mp hr).2

/-- The credits of ring `q` on device `c`. -/
def credsR (q : Fin 4) (c : Dev nD) : sProp 𝕄 :=
  iprop((bigSep (Finset.Ico 0 30) fun v => recvCr q v c) ∗ (bigSep (Finset.Ico 0 27) fun r => creditCr q r c))

theorem creds_ring (q : Fin 4) (c : Dev nD) : (Pipeline.launchCred (fun d => owedR q d 0) c : sProp 𝕄) ⊢ credsR q c := by
  unfold owedR credsR
  rw [Pipeline.launchCred_sum, show (fun v => (Pipeline.launchCred (fun d => dueC q d v + dueR q d v) c : sProp 𝕄))
    = fun v => iprop(Pipeline.launchCred (fun d => dueC q d v) c ∗ Pipeline.launchCred (fun d => dueR q d v) c) from
      funext fun v => Pipeline.launchCred_add _ _ c, bigSep_sep']
  have h1 : (bigSep (Finset.Ico 0 30) fun v => (Pipeline.launchCred (fun d => dueR q d v) c : sProp 𝕄)) ⊢ bigSep (Finset.Ico 0 30) fun v => recvCr q v c :=
    bigSep_mono fun v _ => cred_dueR q v c
  have h2 : (bigSep (Finset.Ico 0 30) fun v => (Pipeline.launchCred (fun d => dueC q d v) c : sProp 𝕄)) ⊢ bigSep (Finset.Ico 0 27) fun r => creditCr q r c :=
    sep_shift (A := fun v => Pipeline.launchCred (fun d => dueC q d v) c) fun r hr => cred_dueC q hr c
  iintro ⟨H1, H2⟩
  isplitl [H2]; · iapply h1; iexact H2
  iapply h2; iexact H1

theorem creds_bar (c : Dev nD) : iprop(Pipeline.launchCred (fun d => tallyAt (bcell (right d)) 1 1) c ∗ Pipeline.launchCred (fun d => tallyAt (bcell (left d)) 1 1) c)
    ⊢ (cred (tallyAt (bcell c) 1 2) : sProp 𝕄) := by
  refine (BIClass.sep_mono (Pipeline.launchCred_tallyAt (.reg bsem) right left right_left left_right 1 1 c)
    (Pipeline.launchCred_tallyAt (.reg bsem) left right left_right right_left 1 1 c)).trans ?_
  rw [show (2 : ℕ) = 1 + 1 from rfl, ← tallyAt_add]
  exact (cred_add _ _).2

theorem creds (c : Dev nD) : (Pipeline.launchCred owed₀ c : sProp 𝕄)
    ⊢ iprop(cred (tallyAt (bcell c) 1 2) ∗ credsR 0 c ∗ credsR 1 c ∗ credsR 2 c ∗ credsR 3 c) := by
  rw [show owed₀ = fun d => owedR 1 d 0 + owedR 3 d 0 + owedR 0 d 0 + owedR 2 d 0 + tallyAt (bcell (right d)) 1 1 + tallyAt (bcell (left d)) 1 1 from rfl,
    Pipeline.launchCred_add, Pipeline.launchCred_add, Pipeline.launchCred_add, Pipeline.launchCred_add, Pipeline.launchCred_add]
  iintro ⟨⟨⟨⟨⟨H1, H3⟩, H0⟩, H2⟩, HR⟩, HL⟩
  isplitl [HR HL]
  · iapply (creds_bar c)
    isplitl [HR]; · iexact HR
    iexact HL
  isplitl [H0]; · iapply (creds_ring 0 c); iexact H0
  isplitl [H1]; · iapply (creds_ring 1 c); iexact H1
  isplitl [H2]; · iapply (creds_ring 2 c); iexact H2
  iapply (creds_ring 3 c); iexact H3

/-! ## A ring's share -/

/-- Ring `q` on device `c` before its buffers are handed in. -/
def startG (q : Fin 4) (c : Dev nD) : sProp 𝕄 :=
  iprop((bigSep Finset.univ fun k : RK => iprop(atPos ER (cell c (some (q, k))) 0 ∅ 0 ∗ reached ER (cell c (some (q, k))) 0)) ∗ payToks q c ∗ credsR q c)

theorem start_ring (q : Fin 4) (c : Dev nD) :
    iprop(startG q c ∗ (bigSep (Finset.Ico 0 16) fun n => iprop(∃ a, outO q n c a)) ∗ commO q c ∗ stagesO q c) ⊢ (startR q c : sProp 𝕄) := by
  unfold startG startR payToks credsR rps sps cpos rp sp op outTodo
  rw [sep_kind, bigSep_sep']
  iintro ⟨⟨⟨⟨Hr0, Hr0'⟩, ⟨Hr1, Hr1'⟩, ⟨Hr2, Hr2'⟩, ⟨Hr3, Hr3'⟩, ⟨Hs0, Hs0'⟩, ⟨Hs1, Hs1'⟩, ⟨Hs2, Hs2'⟩, ⟨Hs3, Hs3'⟩, ⟨Hc, -⟩, ⟨Ho0, Ho0'⟩, Ho1, Ho1'⟩,
    ⟨Ht, Hct, Hot⟩, Hrc, Hcc⟩, Hout, Hcomm, Hst⟩
  isplitl [Hr0 Hr0' Hr1 Hr1' Hr2 Hr2' Hr3 Hr3']
  · isplitl [Hr1 Hr1']
    · isplitl [Hr1]; · iexact Hr1
      iexact Hr1'
    isplitl [Hr2 Hr2']
    · isplitl [Hr2]; · iexact Hr2
      iexact Hr2'
    isplitl [Hr3 Hr3']
    · isplitl [Hr3]; · iexact Hr3
      iexact Hr3'
    isplitl [Hr0]; · iexact Hr0
    iexact Hr0'
  isplitl [Hs0 Hs0' Hs1 Hs1' Hs2 Hs2' Hs3 Hs3']
  · isplitl [Hs0 Hs0']
    · isplitl [Hs0]; · iexact Hs0
      iexact Hs0'
    isplitl [Hs1 Hs1']
    · isplitl [Hs1]; · iexact Hs1
      iexact Hs1'
    isplitl [Hs2 Hs2']
    · isplitl [Hs2]; · iexact Hs2
      iexact Hs2'
    isplitl [Hs3]; · iexact Hs3
    iexact Hs3'
  isplitl [Hc]
  · iexists (∅ : Finset ℕ)
    isplitr; · ipureintro; decide
    iexact Hc
  isplitl [Ht]; · iexact Ht
  isplitl [Hct]; · iexact Hct
  isplitl [Hrc]; · iexact Hrc
  isplitl [Hcc]; · iexact Hcc
  isplitl [Hout Hot]
  · isplitl [Hout]; · iexact Hout
    iexact Hot
  isplitl [Ho0 Ho0']
  · isplitl [Ho0]; · iexact Ho0
    iexact Ho0'
  isplitl [Ho1 Ho1']
  · isplitl [Ho1]; · iexact Ho1
    iexact Ho1'
  isplitl [Hst]; · iapply (stage_split q); iexact Hst
  iapply (comm_split q); iexact Hcomm

end Cert.KernelIdeal.Rings
-- ==== Proof.Rings.BodyEq.lean ====
/-
  The printed body is the four rings' text unrolled.
-/
module

public import proofs.«01_k».proof.Proof.Rings.Program

@[expose] public section

noncomputable section

namespace Cert.KernelIdeal.Rings

open Idealize.ShloMosaic Idealize.ShloMosaic.TcCoe
open Idealize.SL Idealize.SL.Sem
open Cert.KernelIdeal.Gen

variable {F : FTy → Type} [FloatOps F]

set_option maxRecDepth 65536 in
/-- The printed body, on the buffers the kernel is called with, is `bodyR`. -/
theorem body_eq (arg0 : Memref sig .tc .vmem S4096x256 .bf16) (harg0 : arg0.IsWhole)
    (arg1 : Memref sig .tc .vmem S256x8192 .bf16) (harg1 : arg1.IsWhole) :
    cc0_body (F := F) arg0 harg0 arg1 harg1 (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 cc0_scratch20 cc0_scratch21 cc0_scratch22 cc0_scratch23
      = bodyR arg0 arg1 := by
  chain_rfl

end Cert.KernelIdeal.Rings
-- ==== Proof.Rings.Run.lean ====
/-
  The run: the launch's data, the body at the pipeline's one point, and what every final state holds.
-/
module

public import proofs.«01_k».proof.Proof.Rings.Deal
public import proofs.«01_k».proof.Proof.Rings.BodyEq
public import proofs.«01_k».proof.Proof.Gen.KernelIdeal.Points
public import proofs.«01_k».proof.Proof.Gen.KernelIdeal.Frame
public import Idealize.ShloMosaic.Lib.Pipeline.CollectiveSegs

@[expose] public section

set_option backward.proofsInPublic true
set_option maxRecDepth 8000

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen hiding V hmain

variable {F : FTy → Type} [FloatOps F]

local notation "𝕄" => MT nD τ sig ℕ (Elt F) ℕ UU ℕ

variable {X : Dev nD → (cc0_stg0_0 : Ref sig .tc).ty.Contents (Elt F)} {Wt : Dev nD → (cc0_stg1_0 : Ref sig .tc).ty.Contents (Elt F)}
variable {K : Dev nD × Cell → ℕ}
variable {c : Dev nD} {O : CellTallies nD τ sig ℕ} {Q : PUnit → sProp (MT nD τ sig ℕ (Elt F) ℕ UU ℕ)}

/-! ## Everything a device starts with -/

section Start

variable (X Wt K c)

/-- Every semaphore's position with the record that it has come to round 0, ring by ring. -/
theorem pos_rings : iprop(ctx X Wt K ∗ bigSep Finset.univ fun k : Cell => atPos ER (cell c k) 0 ∅ 0)
    ⊢ iprop(atPos ER (bcell c) 0 ∅ 0 ∗ bigSep Finset.univ fun q : Fin 4 => bigSep Finset.univ fun k : RK =>
        iprop(atPos ER (cell c (some (q, k))) 0 ∅ 0 ∗ reached ER (cell c (some (q, k))) 0)) := by
  have hr : ctx X Wt K ⊢ bigSep Finset.univ fun q : Fin 4 => bigSep Finset.univ fun k : RK => reached ER (cell c (some (q, k))) 0 :=
    BI.bigSep_intro_persistent fun q _ => BI.bigSep_intro_persistent fun k _ => ctx_reached X Wt K c (some (q, k))
  rw [sep_cell]
  simp only [bigSep_sep']
  iintro ⟨#HC, Hr, Hb⟩
  isplitl [Hb]; · iexact Hb
  isplitl [Hr]; · iexact Hr
  iapply hr; iexact HC

theorem start_all (f : Buf (Elt F) ((c : Thread nD τ).loc main_v1)) :
    iprop(ctx X Wt K ∗ linear c ∗ (cred (tallyAt (bcell c) 1 2) ∗ bigSep Finset.univ fun q : Fin 4 => credsR q c)
        ∗ (((c : Thread nD τ).loc main_v1) ↦{fullShare} f)
        ∗ (bigSep Finset.univ fun q : Fin 4 => commO q c) ∗ (bigSep Finset.univ fun q : Fin 4 => stagesO q c))
      ⊢ iprop(startB c ∗ bigSep Finset.univ fun q : Fin 4 => startR q c) := by
  have hj : (bigSep Finset.univ fun q : Fin 4 => iprop(startG q c ∗ (bigSep (Finset.Ico 0 16) fun n => iprop(∃ a, outO q n c a)) ∗ commO q c ∗ stagesO q c))
      ⊢ (bigSep Finset.univ fun q : Fin 4 => startR q c : sProp 𝕄) := bigSep_mono fun q _ => start_ring q c
  unfold startG at hj
  simp only [bigSep_sep'] at hj
  unfold linear startB payBar
  iintro ⟨#HC, ⟨Hpos, ⟨Htl, Htr⟩, Htok⟩, ⟨Hcb, Hcr⟩, Hout, Hcomm, Hst⟩
  ihave Hpos := (pos_rings X Wt K c) $$ [Hpos]
  · isplitr; · iexact HC
    iexact Hpos
  icases Hpos with ⟨Hb, Hpos⟩
  isplitl [Hb Htl Htr Hcb]
  · isplitl [Hb]; · iexact Hb
    isplitl [Htl]; · iexact Htl
    isplitl [Htr]; · iexact Htr
    iexact Hcb
  ihave Hout := (out_split f) $$ Hout
  ihave Hpos := (show (bigSep Finset.univ fun q : Fin 4 => bigSep Finset.univ fun k : RK =>
      iprop(atPos ER (cell c (some (q, k))) 0 ∅ 0 ∗ reached ER (cell c (some (q, k))) 0))
      ⊢ iprop((bigSep Finset.univ fun q : Fin 4 => bigSep Finset.univ fun k : RK => (atPos ER (cell c (some (q, k))) 0 ∅ 0 : sProp 𝕄))
        ∗ bigSep Finset.univ fun q : Fin 4 => bigSep Finset.univ fun k : RK => (reached ER (cell c (some (q, k))) 0 : sProp 𝕄)) from by
    simp only [bigSep_sep']; exact Entails.refl _) $$ Hpos
  iapply hj
  isplitl [Hpos Htok Hcr]
  · isplitl [Hpos]; · iexact Hpos
    isplitl [Htok]; · iexact Htok
    iexact Hcr
  isplitl [Hout]; · iexact Hout
  isplitl [Hcomm]; · iexact Hcomm
  iexact Hst

/-- Everything a device ends with. -/
theorem end_all :
    iprop(ctx X Wt K ∗ atPos ER (bcell c) 1 ∅ 0 ∗ endR X Wt 0 c ∗ endR X Wt 1 c ∗ endR X Wt 2 c ∗ endR X Wt 3 c)
      ⊢ |={Set.univ}=> iprop(semVal (bcell c) 0 ∗ (bigSep Finset.univ fun q : Fin 4 => zeroR q c)
        ∗ (bigSep Finset.univ fun q : Fin 4 => commO q c) ∗ (bigSep Finset.univ fun q : Fin 4 => stagesO q c)
        ∗ ∃ g : Buf (Elt F) ((c : Thread nD τ).loc main_v1), ⌜∀ (q : Fin 4) (n : Fin 16), (outV q n c).view.read (Elt F) g = outVal X Wt q n.val c⌝
          ∗ (((c : Thread nD τ).loc main_v1) ↦{fullShare} g)) := by
  rw [sep_four (fun q => zeroR q c), sep_four (fun q => commO q c), sep_four (fun q => stagesO q c)]
  have ho := out_join (F := F) (c := c) fun q n => outVal X Wt q n c
  rw [sep_four] at ho
  iintro ⟨#HC, Hb, H0, H1, H2, H3⟩
  imod (close_bar (X := X) (Wt := Wt) (K := K)) $$ [Hb] with Hb
  · isplitr; · iexact HC
    iexact Hb
  imod (close_ring (X := X) (Wt := Wt) (K := K) 0) $$ [H0] with ⟨Hz0, Hc0, Hs0, Ho0⟩
  · isplitr; · iexact HC
    iexact H0
  imod (close_ring (X := X) (Wt := Wt) (K := K) 1) $$ [H1] with ⟨Hz1, Hc1, Hs1, Ho1⟩
  · isplitr; · iexact HC
    iexact H1
  imod (close_ring (X := X) (Wt := Wt) (K := K) 2) $$ [H2] with ⟨Hz2, Hc2, Hs2, Ho2⟩
  · isplitr; · iexact HC
    iexact H2
  imod (close_ring (X := X) (Wt := Wt) (K := K) 3) $$ [H3] with ⟨Hz3, Hc3, Hs3, Ho3⟩
  · isplitr; · iexact HC
    iexact H3
  imodintro
  isplitl [Hb]; · iexact Hb
  isplitl [Hz0 Hz1 Hz2 Hz3]; · iframe
  isplitl [Hc0 Hc1 Hc2 Hc3]; · iframe
  isplitl [Hs0 Hs1 Hs2 Hs3]; · iframe
  iapply ho
  iframe

end Start

/-- The kernel's scratch buffers are the rings' buffers. -/
theorem scoped_of : (Pipeline.scopedRest spec0 c : sProp 𝕄) ⊢ iprop((bigSep Finset.univ fun q : Fin 4 => commO q c) ∗ bigSep Finset.univ fun q : Fin 4 => stagesO q c) := by
  rw [scopedRest0_eq, sep_four (fun q => commO q c), sep_four (fun q => stagesO q c)]
  show iprop(commO 0 c ∗ commO 1 c ∗ commO 2 c ∗ commO 3 c ∗ stagesO 0 c ∗ stagesO 1 c ∗ stagesO 2 c ∗ stagesO 3 c) ⊢ _
  iintro ⟨H0, H1, H2, H3, H4, H5, H6, H7⟩
  isplitl [H0 H1 H2 H3]
  · isplitl [H0]; · iexact H0
    isplitl [H1]; · iexact H1
    isplitl [H2]; · iexact H2
    iexact H3
  isplitl [H4]; · iexact H4
  isplitl [H5]; · iexact H5
  isplitl [H6]; · iexact H6
  iexact H7
theorem scoped_to : iprop((bigSep Finset.univ fun q : Fin 4 => commO q c) ∗ bigSep Finset.univ fun q : Fin 4 => stagesO q c) ⊢ (Pipeline.scopedRest spec0 c : sProp 𝕄) := by
  rw [scopedRest0_eq, sep_four (fun q => commO q c), sep_four (fun q => stagesO q c)]
  show _ ⊢ iprop(commO 0 c ∗ commO 1 c ∗ commO 2 c ∗ commO 3 c ∗ stagesO 0 c ∗ stagesO 1 c ∗ stagesO 2 c ∗ stagesO 3 c)
  iintro ⟨⟨H0, H1, H2, H3⟩, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The launch's data -/

section Run

variable (m : (ℓ : Loc nD τ sig) → Buf (Elt F) ℓ) (ρ : Dev nD → PrngReg)

/-- Device `c`'s block of `x`, and of `w`, as staged. -/
def xs (c : Dev nD) : (cc0_stg0_0 : Ref sig .tc).ty.Contents (Elt F) := iblk m c 0 t0_0
def ws (c : Dev nD) : (cc0_stg1_0 : Ref sig .tc).ty.Contents (Elt F) := iblk m c 1 t0_0

/-- What the body starts from besides its scratch buffers. -/
def start (c : Dev nD) : sProp 𝕄 :=
  iprop((∃ K, ctx (xs m) (ws m) K ∗ linear c) ∗ (cred (tallyAt (bcell c) 1 2) ∗ bigSep Finset.univ fun q : Fin 4 => credsR q c)
    ∗ (((c : Thread nD τ).loc main_v1) ↦{fullShare} m ((c : Thread nD τ).loc main_v1)))

/-- The result array once the body is done: each store's piece at what the store put there. -/
def done (c : Dev nD) (g : Buf (Elt F) ((c : Thread nD τ).loc main_v1)) : Prop :=
  ∀ (q : Fin 4) (n : Fin 16), (outV q n c).view.read (Elt F) g = outVal (xs m) (ws m) q n.val c
def result (c : Dev nD) : sProp 𝕄 :=
  iprop(∃ g : Buf (Elt F) ((c : Thread nD τ).loc main_v1), ⌜done m c g⌝ ∗ (((c : Thread nD τ).loc main_v1) ↦{fullShare} g))

def Φ₀ (c : Dev nD) : sProp 𝕄 := iprop(start m c ∗ Pipeline.scopedRest spec0 c)
def Φ₁ (c : Dev nD) : sProp 𝕄 :=
  iprop((semVal (bcell c) 0 ∗ result m c) ∗ (bigSep Finset.univ fun q : Fin 4 => zeroR q c) ∗ Pipeline.scopedRest spec0 c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xs m c
    | ⟨1, _⟩ => ws m c
  Φ t := match t with
    | ⟨0, _⟩ => Φ₀ m c
    | ⟨_ + 1, _⟩ => Φ₁ m c
  q _ := fullShare
  owed t := match t with
    | ⟨0, _⟩ => owed₀ c
    | ⟨_ + 1, _⟩ => 0

theorem owns_whole (c : Dev nD) (b : Ref sig .tc) (a : b.ty.Contents (Elt F)) :
    (owns (c : Thread nD τ) (Memref.whole b) fullShare a : sProp 𝕄)
      = iprop(∃ f : Buf (Elt F) ((c : Thread nD τ).loc b), ⌜f = a⌝ ∗ (((c : Thread nD τ).loc b) ↦{fullShare} f)) := by
  unfold owns; simp only [Memref.view_whole, View.read_whole, View.set_whole]

/-! ## The body obligation -/

abbrev stg (c : Dev nD) (b : Ref sig .tc) (a : b.ty.Contents (Elt F)) : sProp 𝕄 :=
  iprop(∃ f : Buf (Elt F) ((c : Thread nD τ).loc b), ⌜f = a⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 2) t0_0 d))
    ∗ (∃ d, stg c cc0_stg1_0 ((dats m ρ 0 c).before (1 : Fin 2) t0_0 d)))
def bodyPost (c : Dev nD) : sProp 𝕄 :=
  iprop(Φ₁ m c ∗ (dats m ρ 0 c).owesAt 0 t0_0.succ ∗ stg c cc0_stg0_0 (xs m c) ∗ stg c cc0_stg1_0 (ws m c))

theorem sound_body (c : Dev nD) : bodyPre m ρ c ⊢ WP c (bodyR (F := F) xM wM) (fun _ => bodyPost m ρ c) := by
  unfold bodyPre Φ₀ start
  iintro ⟨⟨⟨⟨%K, #HC, Hlin⟩, Hcr, Hv⟩, Hsc⟩, Ho, ⟨%d0, %g0, %hg0, Hx⟩, ⟨%d1, %g1, %hg1, Hw⟩⟩
  have hx : g0 = xs m c := by rw [hg0]; unfold Dat.before; rw [if_pos (fetch0_0 t0_0)]; rfl
  have hw : g1 = ws m c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = owed₀ c from rfl]
  ihave Hsc := (scoped_of (F := F) (c := c)) $$ Hsc
  icases Hsc with ⟨Hcomm, Hst⟩
  ihave Hs := (start_all (xs m) (ws m) K c _) $$ [Hlin Hcr Hv Hcomm Hst]
  · isplitr; · iexact HC
    isplitl [Hlin]; · iexact Hlin
    isplitl [Hcr]; · iexact Hcr
    isplitl [Hv]; · iexact Hv
    isplitl [Hcomm]; · iexact Hcomm
    iexact Hst
  icases Hs with ⟨Hb, Hr⟩
  ihave Hr := (Entails.of_eq (sep_four fun q => startR (F := F) q c)) $$ Hr
  icases Hr with ⟨H0, H1, H2, H3⟩
  iapply (wp_body (X := xs m) (Wt := ws m) (K := K)) $$ [Hx Hw Hb H0 H1 H2 H3 HO]
  · isplitr; · iexact HC
    isplitl [Hx Hw]
    · unfold staged
      isplitl [Hx]; · iexact Hx
      iexact Hw
    isplitl [Hb]; · iexact Hb
    isplitl [H0]; · iexact H0
    isplitl [H1]; · iexact H1
    isplitl [H2]; · iexact H2
    isplitl [H3]; · iexact H3
    unfold ow
    iexists W; iexact HO
  unfold staged ow
  iintro ⟨⟨Hx, Hw⟩, Hb, H0, H1, H2, H3, ⟨%W', HO⟩⟩
  imod (end_all (xs m) (ws m) K c) $$ [Hb H0 H1 H2 H3] with ⟨Hb, Hz, Hcomm, Hst, Hv⟩
  · isplitr; · iexact HC
    isplitl [Hb]; · iexact Hb
    isplitl [H0]; · iexact H0
    isplitl [H1]; · iexact H1
    isplitl [H2]; · iexact H2
    iexact H3
  rw [wp_ret]; imodintro
  unfold bodyPost Φ₁ result done Dat.owesAt Pipeline.owesWithin
  rw [show (dats m ρ 0 c).owed t0_0.succ = 0 from rfl]
  isplitl [Hb Hz Hcomm Hst Hv]
  · isplitl [Hb Hv]
    · isplitl [Hb]; · iexact Hb
      iexact Hv
    isplitl [Hz]; · iexact Hz
    iapply (scoped_to (F := F) (c := c))
    isplitl [Hcomm]; · iexact Hcomm
    iexact Hst
  isplitl [HO]
  · iexists W'
    isplitr; · ipureintro; exact fun _ _ => Or.inl trivial
    iexact HO
  isplitl [Hx]
  · iexists _; isplitr; · (ipureintro; rfl)
    iexact Hx
  iexists _; isplitr; · (ipureintro; rfl)
  iexact Hw

set_option maxRecDepth 65536 in
/-- The body at the pipeline's one point. -/
theorem body_obligation (c : Dev nD) : BodyObligation (dats (F := F) m ρ 0 c) (defs₀ (F := F)) 𝒱₀ 0 Set.univ := fun t => by
  rw [fin_N0 t]
  rw [bigSep_W0, bigSep_W0]
  simp only [owns_whole]
  show bodyPre m ρ c ⊢ wp frame (wpE (defs₀ (F := F)) 𝒱₀ (c : Thread nD τ) none) Set.univ
    (bodyAt0 (F := F) t0_0) (fun _ => bodyPost m ρ c)
  have e : bodyAt0 (F := F) t0_0 = bodyR xM wM := body_eq (F := F) xM (Memref.isWhole_whole _) wM (Memref.isWhole_whole _)
  rw [e]
  exact sound_body m ρ c

/-! ## The launch theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' (xs m) (ws m) c)
      ⊢ |={Set.univ}=> iprop(start m c ∗ emp) := by
  rw [Pipeline.unscopedRestP_none, unscopedRest0_eq]
  unfold start G' ctx
  iintro ⟨Hv, #Hlev, Hcr, -, ⟨%K, HR, Hlin⟩⟩
  ihave Hc := (creds (F := F) c) $$ Hcr
  icases Hc with ⟨Hb, Hq⟩
  imodintro
  isplitl
  · isplitl [HR Hlin]
    · iexists K
      isplitl [HR]
      · isplitl [HR]; · iexact HR
        iexact Hlev
      iexact Hlin
    isplitl [Hb Hq]
    · isplitl [Hb]; · iexact Hb
      iapply (Entails.of_eq (sep_four fun q => credsR (F := F) q c).symm); iexact Hq
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ result m c) ∗ Pipeline.ownSems0 ringSem c ∗ Pipeline.scopedRest cfg0.spec c) := by
  rw [show (dats m ρ 0 c).Φ (Fin.last cfg0.N) = Φ₁ m c from rfl, ownSems0_eq, unscopedSems0_eq]
  unfold Φ₁
  exact Entails.refl _

theorem high_owed (c : Dev nD) : High 0 (owed₀ c) :=
  (((((high_owedR 1 c (by omega)).add (high_owedR 3 c (by omega))).add (high_owedR 0 c (by omega))).add (high_owedR 2 c (by omega))).add
    (high_tallyAt (right c) (.reg bsem) (i := 1) (k := 1) (by omega) (by omega))).add (high_tallyAt (left c) (.reg bsem) (i := 1) (k := 1) (by omega) (by omega))

theorem waits (c : Dev nD) : (levAts L lv : sProp 𝕄) ⊢ Pipeline.cellsWaits cfgs (dats m ρ) 0 0 c :=
  Pipeline.cellsWaits_intro cfgs (dats m ρ) 0 0 c fun w s t =>
    mayWait (n := 0) (by
      rcases t with ⟨_ | _, ht⟩
      · exact high_owed c
      · exact high_zero 0) le_rfl (by omega) c _

/-- The result array of a final state. -/
theorem result_read (c : Dev nD) (s' : Phys nD τ sig (Elt F)) :
    iprop((unscopedSems0 c ∗ result m c) ∗ emp ∗ SI s') ⊢ |={Set.univ}=>
      (iprop(⌜(∀ sm : SemLoc sig, sm.isScoped .tc = false → s'.mem.sem ((c.tc : Thread nD τ), sm) = 0) ∧ done m c (s'.mem.mem ((c : Thread nD τ).loc main_v1))⌝ ∗ SI s') : sProp 𝕄) := by
  unfold result
  iintro ⟨⟨Hu, ⟨%g, %hg, Hv⟩⟩, -, HSI⟩
  ihave H := (persistent_entails_right SI_pointsTo_agree) $$ [Hv HSI]
  · isplitl [HSI]; · iexact HSI
    iexact Hv
  icases H with ⟨%e, HSI, Hv⟩
  have e' : s'.mem.mem ((c : Thread nD τ).loc main_v1) = g := funext fun i => e i (Finset.mem_univ i)
  imod (Pipeline.unscopedSems0_read (X := unscopedSems0 c) (c := c) fupd_intro s') $$ [Hu HSI] with ⟨%h, HSI⟩
  · isplitl [Hu]; · iexact Hu
    iexact HSI
  imodintro
  isplitr
  · ipureintro; exact ⟨h, by rw [e']; exact hg⟩
  iexact HSI

/-! ## The run -/

/-- What every final state holds: the arguments as they were, each store's piece of the result at its value, and every
    counter at zero. -/
def Post : PUnit × MemSt nD τ sig (Elt F) → Prop := fun r =>
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1)
    ∧ done m c (r.2.mem ((c.tc : Thread nD τ).loc main_v1)))
  ∧ r.2.sem = fun _ => 0

set_option maxRecDepth 65536 in
/-- Every weakly fair execution of the program on the sixteen devices, from any memory with the counters at zero, ends,
    and ends in such a state. -/
theorem run_main : θ_run defs (onTc (τ := τ) (main (F := F))) (s₀ m ρ) (Post m) :=
  Pipeline.θ_run_region_owing_glob_pf (fun p => (cfgs p).toPCfg) (fun p => (cfgs p).toPCfg_adm) (dats m ρ) 0 cellOf_inj (0 : Fin 1)
    winFacts0.to₀ ringSem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := G (xs m) (ws m)) (G' := G' (xs m) (ws m)) (u₀ := u₀)
    (hu₀ := by
      unfold u₀
      iintro Hu
      ihave H := (ownU_pair _ _) $$ Hu
      icases H with ⟨HP, HX⟩
      imod (fund_rings (xs m) (ws m)) $$ HX with HG
      imodintro
      isplitl [HP] <;> iassumption)
    (hglob := glob (xs m) (ws m))
    (hA := fun _ _ => rfl) (hpf := fun _ k => k.elim0)
    (X := start m) (Y := fun c => iprop(unscopedSems0 c ∗ result m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ done m c (s.mem ((c : Thread nD τ).loc main_v1)))
    (hY := result_read m)
    (hQ := fun _ h hs => ⟨fun c => ⟨((h c).1 (0 : Fin 2)).trans ((dats (F := F) m ρ 0 c).arrAt_in (0 : Fin 2) rfl _),
      ((h c).1 (1 : Fin 2)).trans ((dats (F := F) m ρ 0 c).arrAt_in (1 : Fin 2) rfl _), (h c).2.2.2⟩,
      sem_eq_zero hs fun c => (h c).2.2.1⟩)

end Run

end Cert.KernelIdeal.Rings
-- ==== Proof.Rings.Value.lean ====
/-
  The values over exact numbers: what a ring has summed at each launch, what each piece of the result holds, and that
  the whole is the product of the whole arrays cut off below at zero.
-/
module

public import proofs.«01_k».proof.Proof.Rings.Run
public import Idealize.ShloMosaic.Lib.ValueIdx
public import Idealize.ShloMosaic.Lib.MatmulPlain
public import Idealize.ShloMosaic.Lib.StackMember
public import Idealize.ShloMosaic.Lib.Layout

@[expose] public section

set_option backward.proofsInPublic true
set_option maxRecDepth 8000

noncomputable section

namespace Cert.KernelIdeal.Rings

open Idealize.ShloMosaic Idealize.ShloMosaic.TcCoe Idealize.SL.Sem
open Idealize.ShloMosaic.ValueIdx
open Cert.KernelIdeal.Gen hiding V hmain

/-! ## One block of products -/

section Sums

variable (X : Dev nD → (cc0_stg0_0 : Ref sig .tc).ty.Contents (Elt Ideal)) (Wt : Dev nD → (cc0_stg1_0 : Ref sig .tc).ty.Contents (Elt Ideal))

/-- The element of `x` on device `c` in row `r` of row block `R`, and the element of `w` in column `l` of ring `q`. -/
def xEl (c : Dev nD) (R : Fin 16) (r k : Fin 256) : EReal := X c (ix2 (n0 := 4096) (n1 := 256) ⟨256 * R.val + r.val, by omega⟩ k)
def wEl (c : Dev nD) (q : Fin 4) (k : Fin 256) (l : Fin 2048) : EReal :=
  Wt c (ix2 (n0 := 256) (n1 := 8192) k ⟨2048 * q.val + l.val, by omega⟩)

/-- Device `c`'s part of one element of the product: the sum over its own 256 columns of `x`. -/
def part (q : Fin 4) (R : Fin 16) (r : Fin 256) (l : Fin 2048) (c : Dev nD) : EReal :=
  ∑ k : Fin 256, xEl X c R r k * wEl Wt c q k l

theorem dot_plain : dot_S256x256_S256x2048_S256x2048_1_0_0_1_n_n = DotDims.plain 256 256 2048 := rfl

/-- The rounded product of two blocks is over exact numbers the sum of products. -/
theorem prodV_apply (x : Vec Ideal S256x256 .bf16) (w : Vec Ideal S256x2048 .bf16) (r : Fin 256) (l : Fin 2048) :
    (prodV x w (ix2 r l) : EReal) = ∑ k : Fin 256, (x (ix2 r k) : EReal) * (w (ix2 k l) : EReal) := by
  unfold prodV
  rw [shapeCast_self, shapeCast_self, truncf_apply, dot_plain]
  refine (Ideal.matmul_plain_apply none x w _ r l).trans ?_
  rw [constant_apply, Ideal.ofBits_zero_f32, zero_add]

theorem prodAt_apply (q : Fin 4) (c : Dev nD) (off : Fin 2 → ℕ) (h : ∀ a, off a + S256x256.size a ≤ S4096x256.size a)
    (R : Fin 16) (e : off = ![256 * R.val, 0]) (r : Fin 256) (l : Fin 2048) :
    (prodAt X Wt q c off h (ix2 r l) : EReal) = part X Wt q R r l c := by
  subst e
  unfold prodAt
  rw [prodV_apply]
  refine Finset.sum_congr rfl fun k _ => ?_
  refine congrArg₂ (· * ·) ?_ ?_
  · refine congrArg (X c) (funext fun a => Fin.ext ?_)
    match a with
    | ⟨0, _⟩ => show 256 * R.val + 1 * r.val = 256 * R.val + r.val; omega
    | ⟨1, _⟩ => show 0 + 1 * k.val = k.val; omega
  · refine congrArg (Wt c) (funext fun a => Fin.ext ?_)
    match a with
    | ⟨0, _⟩ => show 0 + 1 * k.val = k.val; omega
    | ⟨1, _⟩ => show 2048 * q.val + 1 * l.val = 2048 * q.val + l.val; omega

/-! ## Once round a ring -/

/-- The row block that device `c` sums at launch `v`. -/
def accRow (q : Fin 4) (v : ℕ) (c : Dev nD) : Fin 16 :=
  ⟨(if fwd q then c.val + 32 - v else c.val + v) % 16, Nat.mod_lt _ (by decide)⟩

theorem accRow_zero : ∀ (q : Fin 4) (c : Dev nD), k0_off1 c = ![256 * (accRow q 0 c).val, 0] := by decide +kernel
theorem accRow_own : ∀ (q : Fin 4) (v : Fin 15) (c : Dev nD), k0_off2 c (xWord q v.val) = ![256 * (accRow q (v.val + 1) c).val, 0] := by
  decide +kernel
theorem accRow_ups : ∀ (q : Fin 4) (v : Fin 15) (c : Dev nD), accRow q v.val (ups q c) = accRow q (v.val + 1) c := by decide +kernel
theorem accRow_out : ∀ (q : Fin 4) (n : Fin 16) (c : Dev nD), accRow q 15 ((ups q)^[n.val] c) = oRow q n c := by decide +kernel

/-- What a device holds at launch `v` is the sum of the parts of the devices it has come through. -/
theorem acc_sum (q : Fin 4) (r : Fin 256) (l : Fin 2048) : ∀ (v : ℕ) (hv : v ≤ 15) (c : Dev nD),
    (acc X Wt q v c (ix2 r l) : EReal) = ∑ j ∈ Finset.range (v + 1), part X Wt q (accRow q v c) r l ((ups q)^[j] c)
  | 0, _, c => by
    rw [Finset.sum_range_one]
    exact prodAt_apply X Wt q c _ _ _ (accRow_zero q c) r l
  | v + 1, hv, c => by
    have h15 : v < 15 := hv
    have e : acc X Wt q (v + 1) c = addV (acc X Wt q v (ups q c)) (ownProd X Wt q v c) := if_pos h15
    have eo : ownProd X Wt q v c = prodAt X Wt q c (k0_off2 c (xWord q v)) (x_inb q ⟨v, h15⟩ c) := dif_pos h15
    rw [e, Finset.sum_range_succ', eo]
    refine (addf_apply _ _ _).trans ?_
    rw [prodAt_apply X Wt q c _ _ _ (accRow_own q ⟨v, h15⟩ c) r l]
    refine congrArg₂ (· + ·) ?_ rfl
    refine (acc_sum q r l v (by omega) (ups q c)).trans ?_
    rw [accRow_ups q ⟨v, h15⟩ c]
    rfl

/-- From then on the sums only move on. -/
theorem acc_move (q : Fin 4) : ∀ (n : ℕ) (c : Dev nD), acc X Wt q (15 + n) c = acc X Wt q 15 ((ups q)^[n] c)
  | 0, _ => rfl
  | n + 1, c => (if_neg (show ¬15 + n < 15 by omega)).trans (acc_move q n (ups q c))

theorem ups_round : ∀ (q : Fin 4) (c : Dev nD), Function.Injective fun j : Fin 16 => (ups q)^[j.val] c := by decide +kernel

/-- Sixteen steps up a ring meet every device once. -/
theorem sum_round (q : Fin 4) (c : Dev nD) (f : Dev nD → EReal) : ∑ j ∈ Finset.range 16, f ((ups q)^[j] c) = ∑ d : Fin 16, f d := by
  rw [Finset.sum_range]
  exact Function.Bijective.sum_comp ((Finite.injective_iff_bijective (α := Fin 16)).mp (ups_round q c)) f

/-- What store `n` puts out. -/
theorem outVal_apply (q : Fin 4) (n : Fin 16) (c : Dev nD) (r : Fin 256) (l : Fin 2048) :
    (outVal X Wt q n.val c (ix2 r l) : EReal) = max (∑ d : Fin 16, part X Wt q (oRow q n c) r l d) 0 := by
  unfold outVal reluV
  rw [maximumf_apply, extf_apply, acc_move]
  refine congrArg₂ max ?_ Ideal.ofBits_zero_f32
  rw [acc_sum X Wt q r l 15 le_rfl, accRow_out, sum_round]

end Sums

/-! ## The whole arrays -/

/-- A sum over 4096 numbers, in sixteen blocks of 256. -/
theorem sum_blocks (f : Fin 4096 → EReal) : ∑ k : Fin 4096, f k = ∑ d : Fin 16, ∑ k : Fin 256, f ⟨256 * d.val + k.val, by omega⟩ := by
  rw [← Equiv.sum_comp (finProdFinEquiv : Fin 16 × Fin 256 ≃ Fin (16 * 256)) f, Fintype.sum_prod_type]
  refine Finset.sum_congr rfl fun d _ => Finset.sum_congr rfl fun k _ => congrArg f (Fin.ext ?_)
  show k.val + 256 * d.val = 256 * d.val + k.val
  omega

section Whole

variable (m : (ℓ : Loc nD τ sig) → Buf (Elt Ideal) ℓ)

/-- The body's blocks are the device's whole arguments. -/
theorem xs_eq (c : Dev nD) : xs m c = m ((c : Thread nD τ).loc main_arg0) := by
  have hz : (fun a => win0_0.index t0_0 a * main_arg0.ty.shape.size a) = fun _ => 0 := funext fun a => by fin_cases a <;> decide
  exact Memref.read_access_unit_zero (Elt Ideal) main_arg0 hz (fun a => by rw [congrFun hz a]; simp) _
theorem ws_eq (c : Dev nD) : ws m c = m ((c : Thread nD τ).loc main_arg1) := by
  have hz : (fun a => win0_1.index t0_0 a * main_arg1.ty.shape.size a) = fun _ => 0 := funext fun a => by fin_cases a <;> decide
  exact Memref.read_access_unit_zero (Elt Ideal) main_arg1 hz (fun a => by rw [congrFun hz a]; simp) _

/-- One element of the product of two whole arrays, cut off below at zero. -/
def whole (A : (⟨2, ![4096, 4096]⟩ : Shape).Idx → EReal) (B : (⟨2, ![4096, 8192]⟩ : Shape).Idx → EReal)
    (i : (⟨2, ![4096, 8192]⟩ : Shape).Idx) : EReal :=
  max (∑ k : Fin 4096, A (ix2 (n0 := 4096) (n1 := 4096) (i 0) k) * B (ix2 (n0 := 4096) (n1 := 8192) k (i 1))) 0

/-- Where each device holds its block of the two arrays, the parts add up to the whole sum. -/
theorem parts_whole (A : (⟨2, ![4096, 4096]⟩ : Shape).Idx → EReal) (B : (⟨2, ![4096, 8192]⟩ : Shape).Idx → EReal)
    (hA : ∀ c : Dev nD, m ((c : Thread nD τ).loc main_arg0) = Layout.block ⟨2, ![4096, 256]⟩ ⟨2, ![4096, 4096]⟩ 1 16 c A)
    (hB : ∀ c : Dev nD, m ((c : Thread nD τ).loc main_arg1) = Layout.block ⟨2, ![256, 8192]⟩ ⟨2, ![4096, 8192]⟩ 0 16 c B)
    (q : Fin 4) (R : Fin 16) (r : Fin 256) (l : Fin 2048) :
    ∑ d : Fin 16, part (xs m) (ws m) q R r l d
      = ∑ k : Fin 4096, A (ix2 (n0 := 4096) (n1 := 4096) ⟨256 * R.val + r.val, by omega⟩ k)
          * B (ix2 (n0 := 4096) (n1 := 8192) k ⟨2048 * q.val + l.val, by omega⟩) := by
  rw [sum_blocks]
  refine Finset.sum_congr rfl fun d _ => Finset.sum_congr rfl fun k _ => ?_
  unfold xEl wEl
  rw [xs_eq, ws_eq, hA, hB]
  refine congrArg₂ (· * ·) (congrArg A (funext fun a => Fin.ext ?_)) (congrArg B (funext fun a => Fin.ext ?_))
  · match a with
    | ⟨0, _⟩ => rfl
    | ⟨1, _⟩ => show d.val * 256 + k.val = 256 * d.val + k.val; omega
  · match a with
    | ⟨0, _⟩ => show d.val * 256 + k.val = 256 * d.val + k.val; omega
    | ⟨1, _⟩ => rfl

/-- A result whose pieces all hold what their stores put out is the product of the whole arrays, cut off at zero. -/
theorem done_whole (A : (⟨2, ![4096, 4096]⟩ : Shape).Idx → EReal) (B : (⟨2, ![4096, 8192]⟩ : Shape).Idx → EReal)
    (hA : ∀ c : Dev nD, m ((c : Thread nD τ).loc main_arg0) = Layout.block ⟨2, ![4096, 256]⟩ ⟨2, ![4096, 4096]⟩ 1 16 c A)
    (hB : ∀ c : Dev nD, m ((c : Thread nD τ).loc main_arg1) = Layout.block ⟨2, ![256, 8192]⟩ ⟨2, ![4096, 8192]⟩ 0 16 c B)
    (c : Dev nD) (g : Buf (Elt Ideal) ((c : Thread nD τ).loc main_v1)) (h : done m c g) : g = whole A B := by
  funext i
  have h0 : (i 0).val < 4096 := (i 0).isLt
  have h1 : (i 1).val < 8192 := (i 1).isLt
  obtain ⟨q, hq⟩ : ∃ q : Fin 4, q.val = (i 1).val / 2048 := ⟨⟨(i 1).val / 2048, by omega⟩, rfl⟩
  obtain ⟨R, hR⟩ : ∃ R : Fin 16, R.val = (i 0).val / 256 := ⟨⟨(i 0).val / 256, by omega⟩, rfl⟩
  obtain ⟨r, hr⟩ : ∃ r : Fin 256, r.val = (i 0).val % 256 := ⟨⟨(i 0).val % 256, by omega⟩, rfl⟩
  obtain ⟨l, hl⟩ : ∃ l : Fin 2048, l.val = (i 1).val % 2048 := ⟨⟨(i 1).val % 2048, by omega⟩, rfl⟩
  have hn : oRow q (oRowInv q R c) c = R := oRow_inv q R c
  have hg := congrFun (h q (oRowInv q R c)) (ix2 r l)
  rw [outVal_apply, hn, parts_whole m A B hA hB] at hg
  have e0 : oOff q (oRowInv q R c).val c 0 = 256 * R.val := by rw [oOff_eq, hn]; rfl
  have e1 : oOff q (oRowInv q R c).val c 1 = 2048 * q.val := by rw [oOff_eq]; rfl
  have ei : (outV q (oRowInv q R c) c).view.emb (ix2 r l) = i := by
    funext a
    apply Fin.ext
    match a with
    | ⟨0, _⟩ => show oOff q (oRowInv q R c).val c 0 + 1 * r.val = (i 0).val; omega
    | ⟨1, _⟩ => show oOff q (oRowInv q R c).val c 1 + 1 * l.val = (i 1).val; omega
  have eg : (outV q (oRowInv q R c) c).view.read (Elt Ideal) g (ix2 r l) = g i := congrArg g ei
  refine eg.symm.trans (hg.trans ?_)
  have i0 : (⟨256 * R.val + r.val, by omega⟩ : Fin 4096) = i 0 := Fin.ext (show 256 * R.val + r.val = (i 0).val by omega)
  have i1 : (⟨2048 * q.val + l.val, by omega⟩ : Fin 8192) = i 1 := Fin.ext (show 2048 * q.val + l.val = (i 1).val by omega)
  unfold whole
  rw [i0, i1]

end Whole

end Cert.KernelIdeal.Rings

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Rings.Run
public import proofs.«01_k».proof.Proof.Rings.Value
public import Idealize.ShloMosaic.Adequacy
public import Idealize.ShloMosaic.Init

@[expose] public section

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts

/-- The kernel's body table is the idealized kernel's: the two programs are one text. -/
theorem defs₀_eq : Cert.Kernel.defs₀ (F := Bits)
    = (Cert.KernelIdeal.defs₀ (F := Bits) : Defs Cert.Kernel.nD Cert.Kernel.τ Cert.Kernel.sig (Elt Bits) Cert.Kernel.Λ₀) := by
  unfold Cert.Kernel.defs₀ Cert.KernelIdeal.defs₀
  refine congrArg Defs.onTc ?_
  funext l a
  match l, a with
  | 0, (t, s) => rfl

/-- So are the tables with the pipeline's own bodies. -/
theorem defs_eq : Cert.Kernel.defs (F := Bits) = Cert.KernelIdeal.defs (F := Bits) := by
  show Pipeline.defs Cert.Kernel.pcfgs Cert.Kernel.defs₀ = _
  rw [defs₀_eq]
  rfl

/-- The kernel runs: every execution ends, nothing faulting, its arguments unchanged and every counter at zero. -/
theorem frame_kernel : Cert.quiescent_Kernel := fun m ρ _ => by
  rw [defs_eq]
  exact (θ_run Cert.KernelIdeal.defs _ _).mono
    (fun _ (h : Cert.KernelIdeal.Rings.Post (F := Bits) m _) => ⟨fun c => ⟨(h.1 c).1, (h.1 c).2.1⟩, h.2⟩)
    (Cert.KernelIdeal.Rings.run_main (F := Bits) m ρ)

/-- The same of the idealized kernel, from the same run. -/
theorem frame_kernelIdeal : Cert.quiescent_KernelIdeal := fun m ρ _ =>
  (θ_run Cert.KernelIdeal.defs _ _).mono
    (fun _ (h : Cert.KernelIdeal.Rings.Post (F := Ideal) m _) => ⟨fun c => ⟨(h.1 c).1, (h.1 c).2.1⟩, h.2⟩)
    (Cert.KernelIdeal.Rings.run_main (F := Ideal) m ρ)

/-- The reference runs, its arguments unchanged; it declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

open Cert.ReferenceIdeal Cert.ReferenceIdeal.Facts₀ Cert.ReferenceIdeal.Facts in
/-- The value the reference computes, at an index: the product's element, cut off below at zero. -/
theorem reference_value (A : FVec Ideal Cert.ReferenceIdeal.S4096x4096 .bf16) (B : FVec Ideal Cert.ReferenceIdeal.S4096x8192 .bf16) :
    (maximumf (F := Ideal) (Host.dotGeneral Cert.ReferenceIdeal.dot_S4096x4096_S4096x8192_S4096x8192_1_0_0_1_n_n none
        (extf .f32 A bitsLt_bf16_f32) (extf .f32 B bitsLt_bf16_f32))
      (broadcastInDim Cert.ReferenceIdeal.S4096x8192 ![] bcast_S_S4096x8192
        (constant Cert.ReferenceIdeal.S_ .f32 0x00000000#32)) : FVec Ideal Cert.ReferenceIdeal.S4096x8192 .f32)
      = Cert.KernelIdeal.Rings.whole A B := by
  have hd : Cert.ReferenceIdeal.dot_S4096x4096_S4096x8192_S4096x8192_1_0_0_1_n_n = DotDims.plain 4096 4096 8192 := rfl
  funext i
  obtain ⟨a, b, rfl⟩ : ∃ (a : Fin 4096) (b : Fin 8192), i = ValueIdx.ix2 a b := ⟨i 0, i 1, ValueIdx.eq_ix2 i⟩
  rw [ValueIdx.maximumf_apply, hd, Idealize.ShloMosaic.StackMember.dotGeneral_plain_apply]
  exact congrArg (max _) Ideal.ofBits_zero_f32

/-- Where the devices hold the blocks of the reference's arguments, both run and every device ends with the reference's
    result. -/
theorem value : Cert.algebraic_KernelIdeal_ReferenceIdeal := fun m ρ m' ρ' _ hin =>
  ⟨_, (θ_run Cert.KernelIdeal.defs _ _).mono
      (fun _ (h : Cert.KernelIdeal.Rings.Post (F := Ideal) m _) c =>
        ⟨(Cert.KernelIdeal.Rings.done_whole m _ _ (fun d => (hin d).1) (fun d => (hin d).2) c _ (h.1 c).2.2).trans
          (reference_value _ _).symm, (h.1 c).1, (h.1 c).2.1⟩)
      (Cert.KernelIdeal.Rings.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_referenceIdeal, trivial, value⟩

end Cert.Proof

end
